-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_class_scores_below_infinity [hPre_class_scores_below_infinity : Cert.Pre_class_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_class_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_class_scores_below_infinity [hPre_class_scores_below_infinity : Cert.Pre_class_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_class_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_class_scores_below_infinity [hKernelIdeal : Cert.KernelIdeal.Facts] [hPre_class_scores_below_infinity : Cert.Pre_class_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_class_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_class_scores_below_infinity [hReferenceIdeal : Cert.ReferenceIdeal.Facts] [hPre_class_scores_below_infinity : Cert.Pre_class_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_class_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_class_scores_below_infinity [hKernelIdeal : Cert.KernelIdeal.Facts] [hReferenceIdeal : Cert.ReferenceIdeal.Facts] [hPre_class_scores_below_infinity : Cert.Pre_class_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_class_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_class_scores_below_infinity : Cert.Pre_class_scores_below_infinity.Facts),
    quiescent_Kernel (hKernel := hKernel)
    ∧ quiescent_KernelIdeal (hKernelIdeal := hKernelIdeal)
    ∧ quiescent_KernelIdeal_pre_class_scores_below_infinity (hKernelIdeal := hKernelIdeal) (hPre_class_scores_below_infinity := hPre_class_scores_below_infinity)
    ∧ quiescent_ReferenceIdeal (hReferenceIdeal := hReferenceIdeal)
    ∧ quiescent_ReferenceIdeal_pre_class_scores_below_infinity (hReferenceIdeal := hReferenceIdeal) (hPre_class_scores_below_infinity := hPre_class_scores_below_infinity)
    ∧ preserves_Kernel_KernelIdeal
    ∧ algebraic_KernelIdeal_ReferenceIdeal_pre_class_scores_below_infinity (hKernelIdeal := hKernelIdeal) (hReferenceIdeal := hReferenceIdeal) (hPre_class_scores_below_infinity := hPre_class_scores_below_infinity)
-- ==== Pre_class_scores_below_infinity.lean ====
abbrev S32x255x64x64 : Shape := ⟨4, ![32, 255, 64, 64]⟩
abbrev S32x3x64x64x85 : Shape := ⟨5, ![32, 3, 64, 64, 85]⟩
abbrev S32x3x85x64x64 : Shape := ⟨5, ![32, 3, 85, 64, 64]⟩
abbrev S32x3x80x64x64 : Shape := ⟨5, ![32, 3, 80, 64, 64]⟩
abbrev S_ : Shape := ⟨0, ![]⟩

class Facts : Prop where
  shapeCasts_S32x255x64x64_S32x3x85x64x64 : S32x255x64x64.ShapeCasts S32x3x85x64x64
  slices_S32x3x85x64x64_S32x3x80x64x64_0_0_5_0_0 : S32x3x85x64x64.Slices ![0, 0, 5, 0, 0] S32x3x80x64x64
  bcast_S_S32x3x80x64x64 : S_.BroadcastsInDim S32x3x80x64x64 (![] : Fin 0 → Fin S32x3x80x64x64.rank)
  reducesTo_S32x3x80x64x64_S_d0_1_2_3_4 : S32x3x80x64x64.ReducesTo [0, 1, 2, 3, 4] S_
  h_S_ : 0 < S_.numel

variable [Facts]

def fn {F : FTy → Type} [FloatOps F] (main_arg0 : FVec F S32x255x64x64 .f32) (main_arg1 : FVec F S32x3x64x64x85 .f32) : IVec S_ 1 :=
  let main_v0 : FVec F S32x3x85x64x64 .f32 := shapeCast S32x3x85x64x64 main_arg0 shapeCasts_S32x255x64x64_S32x3x85x64x64
  let main_v1 : FVec F S32x3x80x64x64 .f32 := (extractStridedSlice S32x3x80x64x64 ![0, 0, 5, 0, 0] · slices_S32x3x85x64x64_S32x3x80x64x64_0_0_5_0_0) main_v0
  let main_cst : FVec F S_ .f32 := constant S_ .f32 0x7F800000#32
  let main_v2 : FVec F S32x3x80x64x64 .f32 := broadcastInDim S32x3x80x64x64 ![] bcast_S_S32x3x80x64x64 main_cst
  let main_v3 : IVec S32x3x80x64x64 1 := cmpf .olt main_v1 main_v2
  let main_c : IVec S_ 1 := constantI S_ 1 1#1
  let main_v4 : IVec S_ 1 := (fun x v => Host.reduce IntOp.andi x v reducesTo_S32x3x80x64x64_S_d0_1_2_3_4 h_S_) main_v3 main_c
  main_v4
-- ==== Kernel.lean ====
abbrev S32x255x64x64 : Shape := ⟨4, ![32, 255, 64, 64]⟩
abbrev S32x3x64x64x85 : Shape := ⟨5, ![32, 3, 64, 64, 85]⟩
abbrev S32x3x85x4096 : Shape := ⟨4, ![32, 3, 85, 4096]⟩
abbrev S1x1 : Shape := ⟨2, ![1, 1]⟩
abbrev S2x2x85x4096 : Shape := ⟨4, ![2, 2, 85, 4096]⟩
abbrev S2x1x85x4096 : Shape := ⟨4, ![2, 1, 85, 4096]⟩
abbrev S2x2x64x64x85 : Shape := ⟨5, ![2, 2, 64, 64, 85]⟩
abbrev S2x1x64x64x85 : Shape := ⟨5, ![2, 1, 64, 64, 85]⟩
abbrev S1x1x85x4096 : Shape := ⟨4, ![1, 1, 85, 4096]⟩
abbrev S85x4096 : Shape := ⟨2, ![85, 4096]⟩
abbrev S1x1x64x64x85 : Shape := ⟨5, ![1, 1, 64, 64, 85]⟩
abbrev S64x64x85 : Shape := ⟨3, ![64, 64, 85]⟩
abbrev S4096x85 : Shape := ⟨2, ![4096, 85]⟩
abbrev S1x4096 : Shape := ⟨2, ![1, 4096]⟩
abbrev S80x4096 : Shape := ⟨2, ![80, 4096]⟩
abbrev S4096 : Shape := ⟨1, ![4096]⟩
abbrev S1 : Shape := ⟨1, ![1]⟩
abbrev S_ : Shape := ⟨0, ![]⟩

abbrev nBuf : Space → Nat
  | .hbm => 5
  | .vmem => 9
  | .smem => 0
  | _ => 0

abbrev bufTy : (tb : Table) → Fin (tcTables nBuf tb) → BufTy
  | .hbm, ⟨0, _⟩ => ⟨S32x255x64x64, .f32⟩
  | .hbm, ⟨1, _⟩ => ⟨S32x3x64x64x85, .f32⟩
  | .hbm, ⟨2, _⟩ => ⟨S32x3x85x4096, .f32⟩
  | .hbm, ⟨3, _⟩ => ⟨S1x1, .f32⟩
  | .hbm, ⟨4, _⟩ => ⟨S_, .f32⟩
  | .local _ .vmem, ⟨0, _⟩ => ⟨S2x2x85x4096, .f32⟩
  | .local _ .vmem, ⟨1, _⟩ => ⟨S2x2x85x4096, .f32⟩
  | .local _ .vmem, ⟨2, _⟩ => ⟨S2x1x85x4096, .f32⟩
  | .local _ .vmem, ⟨3, _⟩ => ⟨S2x1x85x4096, .f32⟩
  | .local _ .vmem, ⟨4, _⟩ => ⟨S2x2x64x64x85, .f32⟩
  | .local _ .vmem, ⟨5, _⟩ => ⟨S2x2x64x64x85, .f32⟩
  | .local _ .vmem, ⟨6, _⟩ => ⟨S2x1x64x64x85, .f32⟩
  | .local _ .vmem, ⟨7, _⟩ => ⟨S2x1x64x64x85, .f32⟩
  | .local _ .vmem, ⟨8, _⟩ => ⟨S1x1, .f32⟩
  | _, _ => ⟨S32x255x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![arg0.toNat, c2_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2x85x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x85x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2x64x64x85 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x64x64x85 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x255x64x64 : Shape := ⟨4, ![32, 255, 64, 64]⟩
abbrev S32x3x64x64x85 : Shape := ⟨5, ![32, 3, 64, 64, 85]⟩
abbrev S32x3x85x64x64 : Shape := ⟨5, ![32, 3, 85, 64, 64]⟩
abbrev S32x3x64x64x1 : Shape := ⟨5, ![32, 3, 64, 64, 1]⟩
abbrev S32x3x64x64 : Shape := ⟨4, ![32, 3, 64, 64]⟩
abbrev S_ : Shape := ⟨0, ![]⟩
abbrev S32x3x64x64x80 : Shape := ⟨5, ![32, 3, 64, 64, 80]⟩
abbrev S32x3x64x64x1x1 : Shape := ⟨6, ![32, 3, 64, 64, 1, 1]⟩
abbrev S1 : Shape := ⟨1, ![1]⟩
abbrev S1x1x1x1x1x1 : Shape := ⟨6, ![1, 1, 1, 1, 1, 1]⟩

abbrev nBuf : Space → Nat
  | .hbm => 141
  | .vmem => 0
  | .smem => 0
  | _ => 0

abbrev hbmTy0_0 (i : Nat) : BufTy := match i % 128 with
  | 0 => ⟨S32x255x64x64, .f32⟩
  | 1 => ⟨S32x3x64x64x85, .f32⟩
  | 2 => ⟨S32x3x85x64x64, .f32⟩
  | 3 => ⟨S32x3x64x64x85, .f32⟩
  | 4 => ⟨S32x3x64x64x1, .f32⟩
  | 5 => ⟨S32x3x64x64, .f32⟩
  | 6 => ⟨S32x3x64x64, .f32⟩
  | 7 => ⟨S32x3x64x64, .f32⟩
  | 8 => ⟨S_, .f32⟩
  | 9 => ⟨S32x3x64x64, .f32⟩
  | 10 => ⟨S32x3x64x64, .f32⟩
  | 11 => ⟨S_, .f32⟩
  | 12 => ⟨S32x3x64x64, .f32⟩
  | 13 => ⟨S32x3x64x64, .f32⟩
  | 14 => ⟨S32x3x64x64x1, .f32⟩
  | 15 => ⟨S32x3x64x64, .f32⟩
  | 16 => ⟨S32x3x64x64, .f32⟩
  | 17 => ⟨S32x3x64x64, .f32⟩
  | 18 => ⟨S_, .f32⟩
  | 19 => ⟨S32x3x64x64, .f32⟩
  | 20 => ⟨S32x3x64x64, .f32⟩
  | 21 => ⟨S_, .f32⟩
  | 22 => ⟨S32x3x64x64, .f32⟩
  | 23 => ⟨S32x3x64x64, .f32⟩
  | 24 => ⟨S32x3x64x64x1, .f32⟩
  | 25 => ⟨S32x3x64x64, .f32⟩
  | 26 => ⟨S32x3x64x64x1, .f32⟩
  | 27 => ⟨S32x3x64x64, .f32⟩
  | 28 => ⟨S32x3x64x64x1, .f32⟩
  | 29 => ⟨S32x3x64x64, .f32⟩
  | 30 => ⟨S32x3x64x64x80, .f32⟩
  | 31 => ⟨S32x3x64x64x1, .f32⟩
  | 32 => ⟨S32x3x64x64, .f32⟩
  | 33 => ⟨S32x3x64x64x1, .f32⟩
  | 34 => ⟨S32x3x64x64, .f32⟩
  | 35 => ⟨S32x3x64x64x1, .f32⟩
  | 36 => ⟨S32x3x64x64, .f32⟩
  | 37 => ⟨S32x3x64x64x1, .f32⟩
  | 38 => ⟨S32x3x64x64, .f32⟩
  | 39 => ⟨S32x3x64x64x1, .f32⟩
  | 40 => ⟨S32x3x64x64, .f32⟩
  | 41 => ⟨S32x3x64x64x80, .f32⟩
  | 42 => ⟨S_, .f32⟩
  | 43 => ⟨S32x3x64x64, .f32⟩
  | 44 => ⟨S32x3x64x64, .i1⟩
  | 45 => ⟨S32x3x64x64, .f32⟩
  | 46 => ⟨S_, .f32⟩
  | 47 => ⟨S32x3x64x64, .f32⟩
  | 48 => ⟨S32x3x64x64, .i1⟩
  | 49 => ⟨S32x3x64x64, .f32⟩
  | 50 => ⟨S32x3x64x64, .f32⟩
  | 51 => ⟨S32x3x64x64, .f32⟩
  | 52 => ⟨S32x3x64x64, .f32⟩
  | 53 => ⟨S_, .f32⟩
  | 54 => ⟨S_, .f32⟩
  | 55 => ⟨S32x3x64x64, .f32⟩
  | 56 => ⟨S32x3x64x64, .f32⟩
  | 57 => ⟨S32x3x64x64, .f32⟩
  | 58 => ⟨S_, .f32⟩
  | 59 => ⟨S_, .f32⟩
  | 60 => ⟨S32x3x64x64, .f32⟩
  | 61 => ⟨S32x3x64x64, .f32⟩
  | 62 => ⟨S32x3x64x64, .f32⟩
  | 63 => ⟨S_, .f32⟩
  | 64 => ⟨S_, .f32⟩
  | 65 => ⟨S32x3x64x64, .f32⟩
  | 66 => ⟨S32x3x64x64, .f32⟩
  | 67 => ⟨S32x3x64x64, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S32x3x64x64, .f32⟩
  | 77 => ⟨S32x3x64x64, .f32⟩
  | 78 => ⟨S32x3x64x64, .f32⟩
  | 79 => ⟨S32x3x64x64, .f32⟩
  | 80 => ⟨S32x3x64x64, .i1⟩
  | 81 => ⟨S32x3x64x64, .f32⟩
  | 82 => ⟨S32x3x64x64, .f32⟩
  | 83 => ⟨S32x3x64x64, .f32⟩
  | 84 => ⟨S32x3x64x64, .f32⟩
  | 85 => ⟨S32x3x64x64, .f32⟩
  | 86 => ⟨S32x3x64x64, .f32⟩
  | 87 => ⟨S32x3x64x64, .f32⟩
  | 88 => ⟨S32x3x64x64, .f32⟩
  | 89 => ⟨S32x3x64x64, .f32⟩
  | 90 => ⟨S32x3x64x64, .f32⟩
  | 91 => ⟨S32x3x64x64, .f32⟩
  | 92 => ⟨S_, .f32⟩
  | 93 => ⟨S_, .f32⟩
  | 94 => ⟨S32x3x64x64, .f32⟩
  | 95 => ⟨S_, .f32⟩
  | 96 => ⟨S_, .f32⟩
  | 97 => ⟨S_, .f32⟩
  | 98 => ⟨S_, .f32⟩
  | 99 => ⟨S_, .f32⟩
  | 100 => ⟨S32x3x64x64x80, .i32⟩
  | 101 => ⟨S_, .f32⟩
  | 102 => ⟨S_, .i32⟩
  | 103 => ⟨S32x3x64x64, .f32⟩
  | 104 => ⟨S32x3x64x64, .i32⟩
  | 105 => ⟨S32x3x64x64x80, .f32⟩
  | 106 => ⟨S_, .f32⟩
  | 107 => ⟨S32x3x64x64, .f32⟩
  | 108 => ⟨S32x3x64x64, .f32⟩
  | 109 => ⟨S32x3x64x64x1, .i32⟩
  | 110 => ⟨S_, .i32⟩
  | 111 => ⟨S32x3x64x64x1, .i32⟩
  | 112 => ⟨S32x3x64x64x1, .i1⟩
  | 113 => ⟨S_, .i32⟩
  | 114 => ⟨S32x3x64x64x1, .i32⟩
  | 115 => ⟨S32x3x64x64x1, .i32⟩
  | 116 => ⟨S32x3x64x64x1, .i32⟩
  | 117 => ⟨S32x3x64x64x1x1, .i32⟩
  | 118 => ⟨S1, .i32⟩
  | 119 => ⟨S_, .i32⟩
  | 120 => ⟨S32x3x64x64x1x1, .i32⟩
  | 121 => ⟨S32x3x64x64x1x1, .i1⟩
  | 122 => ⟨S1x1x1x1x1x1, .i32⟩
  | 123 => ⟨S32x3x64x64x1x1, .i32⟩
  | 124 => ⟨S32x3x64x64x1x1, .i1⟩
  | 125 => ⟨S32x3x64x64x1x1, .i1⟩
  | 126 => ⟨S_, .i1⟩
  | 127 => ⟨S32x3x64x64x1, .i1⟩
  | _ => ⟨S32x255x64x64, .f32⟩

abbrev hbmTy0_1 (i : Nat) : BufTy := match i % 128 with
  | 0 => ⟨S32x3x64x64x1, .f32⟩
  | 1 => ⟨S_, .f32⟩
  | 2 => ⟨S32x3x64x64x1, .f32⟩
  | 3 => ⟨S32x3x64x64x1, .f32⟩
  | 4 => ⟨S32x3x64x64, .f32⟩
  | 5 => ⟨S32x3x64x64, .f32⟩
  | 6 => ⟨S32x3x64x64, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S32x255x64x64, .f32⟩

abbrev hbmTy (i : Nat) : BufTy := match i / 128 with
  | 0 => hbmTy0_0 i
  | 1 => hbmTy0_1 i
  | _ => ⟨S32x255x64x64, .f32⟩

abbrev bufTy : (tb : Table) → Fin (tcTables nBuf tb) → BufTy
  | .hbm, ⟨i, _⟩ => hbmTy i
  | _, _ => ⟨S32x255x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_6 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_7 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_8 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_9 : Ref sig .tc := ⟨.hbm, 73, rfl⟩
abbrev main_v61 : Ref sig .tc := ⟨.hbm, 74, rfl⟩
abbrev main_cst_10 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_11 : Ref sig .tc := ⟨.hbm, 92, rfl⟩
abbrev main_v78 : Ref sig .tc := ⟨.hbm, 93, rfl⟩
abbrev main_v79 : Ref sig .tc := ⟨.hbm, 94, rfl⟩
abbrev main_cst_12 : Ref sig .tc := ⟨.hbm, 95, rfl⟩
abbrev main_v80 : Ref sig .tc := ⟨.hbm, 96, rfl⟩
abbrev main_cst_13 : Ref sig .tc := ⟨.hbm, 97, rfl⟩
abbrev main_v81 : Ref sig .tc := ⟨.hbm, 98, rfl⟩
abbrev main_v82 : Ref sig .tc := ⟨.hbm, 99, rfl⟩
abbrev main_call0_v0 : Ref sig .tc := ⟨.hbm, 100, rfl⟩
abbrev main_call0_cst : Ref sig .tc := ⟨.hbm, 101, rfl⟩
abbrev main_call0_c : Ref sig .tc := ⟨.hbm, 102, rfl⟩
abbrev main_call0_v1_0 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_call1_c : Ref sig .tc := ⟨.hbm, 110, rfl⟩
abbrev main_call1_v0 : Ref sig .tc := ⟨.hbm, 111, rfl⟩
abbrev main_call1_v1 : Ref sig .tc := ⟨.hbm, 112, rfl⟩
abbrev main_call1_c_0 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_c_1 : Ref sig .tc := ⟨.hbm, 118, rfl⟩
abbrev main_call1_c_2 : Ref sig .tc := ⟨.hbm, 119, rfl⟩
abbrev main_call1_v6 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_c_3 : Ref sig .tc := ⟨.hbm, 126, rfl⟩
abbrev main_call1_v12 : Ref sig .tc := ⟨.hbm, 127, rfl⟩
abbrev main_call1_v13 : Ref sig .tc := ⟨.hbm, 128, rfl⟩
abbrev main_call1_cst : Ref sig .tc := ⟨.hbm, 129, rfl⟩
abbrev main_call1_v14 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_15 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_16 : Ref sig .tc := ⟨.hbm, 139, rfl⟩
abbrev main_v95 : Ref sig .tc := ⟨.hbm, 140, rfl⟩

abbrev nD : Nat := 1
abbrev τ : Topo := Topo.v7x

variable {F : FTy → Type} [FloatOps F]
-- ==== Proof.RefRun.lean ====
/- The reference's run: it leaves its arguments as they were, and its result is the composed term `value` of them. -/
module

public import proofs.«01_k».proof.Defs
public import proofs.«01_k».proof.Proof.Gen.ReferenceIdeal
public import Idealize.ShloMosaic.Lib.Pipeline.ValueKit
public import Idealize.ShloMosaic.Lib.Claim
public import Idealize.ShloMosaic.Lib.StableHlo.RunHlo
public import Idealize.ShloMosaic.Adequacy
public import Idealize.ShloMosaic.Init

@[expose] public section

set_option maxRecDepth 65536

noncomputable section

namespace Cert.ReferenceIdeal.Own

open Idealize.ShloMosaic Idealize.SL.Sem Cert.ReferenceIdeal Cert.ReferenceIdeal.Gen

/-- One constant at every cell. -/
def konst (b : BitVec 32) : FVec Ideal S32x3x64x64 .f32 :=
  broadcastInDim S32x3x64x64 ![] bcast_S_S32x3x64x64 (constant S_ .f32 b)

/-- One word at every cell, with a unit axis after it. -/
def konstI (b : BitVec 32) : IVec S32x3x64x64x1 32 :=
  broadcastInDim S32x3x64x64x1 ![] bcast_S_S32x3x64x64x1 (constantI S_ 32 b)

/-- The unit last axis dropped. -/
def flat (x : FVec Ideal S32x3x64x64x1 .f32) : FVec Ideal S32x3x64x64 .f32 :=
  shapeCast S32x3x64x64 x shapeCasts_S32x3x64x64x1_S32x3x64x64

/-- The predictions with the 85 fields last. -/
def preds (x : FVec Ideal S32x255x64x64 .f32) : FVec Ideal S32x3x64x64x85 .f32 :=
  transpose S32x3x64x64x85 [0, 1, 3, 4, 2] (shapeCast S32x3x85x64x64 x shapeCasts_S32x255x64x64_S32x3x85x64x64)
    transposes_S32x3x85x64x64_S32x3x64x64x85_0_1_3_4_2

/-- The first field. -/
def f0 (v : FVec Ideal S32x3x64x64x85 .f32) : FVec Ideal S32x3x64x64 .f32 :=
  flat (extractStridedSlice S32x3x64x64x1 ![0, 0, 0, 0, 0] v slices_S32x3x64x64x85_S32x3x64x64x1_0_0_0_0_0)

/-- The second field. -/
def f1 (v : FVec Ideal S32x3x64x64x85 .f32) : FVec Ideal S32x3x64x64 .f32 :=
  flat (extractStridedSlice S32x3x64x64x1 ![0, 0, 0, 0, 1] v slices_S32x3x64x64x85_S32x3x64x64x1_0_0_0_0_1)

/-- The third field. -/
def f2 (v : FVec Ideal S32x3x64x64x85 .f32) : FVec Ideal S32x3x64x64 .f32 :=
  flat (extractStridedSlice S32x3x64x64x1 ![0, 0, 0, 0, 2] v slices_S32x3x64x64x85_S32x3x64x64x1_0_0_0_0_2)

/-- The fourth field. -/
def f3 (v : FVec Ideal S32x3x64x64x85 .f32) : FVec Ideal S32x3x64x64 .f32 :=
  flat (extractStridedSlice S32x3x64x64x1 ![0, 0, 0, 0, 3] v slices_S32x3x64x64x85_S32x3x64x64x1_0_0_0_0_3)

/-- The fifth field, the object's. -/
def f4 (v : FVec Ideal S32x3x64x64x85 .f32) : FVec Ideal S32x3x64x64 .f32 :=
  flat (extractStridedSlice S32x3x64x64x1 ![0, 0, 0, 0, 4] v slices_S32x3x64x64x85_S32x3x64x64x1_0_0_0_0_4)

/-- The 80 class fields. -/
def fc (v : FVec Ideal S32x3x64x64x85 .f32) : FVec Ideal S32x3x64x64x80 .f32 :=
  extractStridedSlice S32x3x64x64x80 ![0, 0, 0, 0, 5] v slices_S32x3x64x64x85_S32x3x64x64x80_0_0_0_0_5

/-- The sum over all cells. -/
def total (v : FVec Ideal S32x3x64x64 .f32) : FVec Ideal S_ .f32 :=
  Host.reduceAdd v (constant S_ .f32 0x00000000#32) reducesTo_S32x3x64x64_S_d0_1_2_3 h_S_

/-- The logistic function. -/
def logistic (v : FVec Ideal S32x3x64x64 .f32) : FVec Ideal S32x3x64x64 .f32 :=
  Host.divf (konst 0x3F800000#32) (addf (konst 0x3F800000#32) (Host.exp (Host.negf v)))

/-- The indicator, as a float, of the cells where `v` is the constant with bits `b`. -/
def indicator (b : BitVec 32) (v : FVec Ideal S32x3x64x64 .f32) : FVec Ideal S32x3x64x64 .f32 :=
  uitofp .f32 (cmpf .oeq v (konst b))

/-- The masked sum of squared differences. -/
def sqLoss (o v w : FVec Ideal S32x3x64x64 .f32) : FVec Ideal S_ .f32 :=
  total (mulf o (mulf (subf v w) (subf v w)))

/-- The logistic loss of the confidence, through the log of the sum of two exponentials. -/
def bce (z y : FVec Ideal S32x3x64x64 .f32) : FVec Ideal S32x3x64x64 .f32 :=
  subf (select (cmpf .une (subf (konst 0x00000000#32) z) (subf (konst 0x00000000#32) z))
      (addf (konst 0x00000000#32) z)
      (addf (maximumf (konst 0x00000000#32) z)
        (Host.log1p (Host.exp (Host.negf (Host.absf (subf (konst 0x00000000#32) z)))))))
    (mulf z y)

/-- The number of the largest class target. -/
def argmax (y : FVec Ideal S32x3x64x64x80 .f32) : IVec S32x3x64x64 32 := fun j =>
  (Host.argReduce reducer_argmax_f32_i32 y (iotaInDim S32x3x64x64x80 32 4) (constant S_ .f32 0xFF800000#32)
    (constantI S_ 32 0#32) reducesTo_S32x3x64x64x80_S32x3x64x64_d4 h_S_ j).2

/-- A column of class numbers, a negative one counted from the end. -/
def wrapped (n : IVec S32x3x64x64x1 32) : IVec S32x3x64x64x1x1 32 :=
  shapeCast S32x3x64x64x1x1 (select (cmpi .slt n (konstI 0#32)) (addi n (konstI 80#32)) n)
    shapeCasts_S32x3x64x64x1_S32x3x64x64x1x1

/-- Whether a class number is between 0 and 79. -/
def inRange (n : IVec S32x3x64x64x1x1 32) : IVec S32x3x64x64x1 1 :=
  Host.reduce IntOp.andi
    (andi (cmpi .sge n (broadcastInDim S32x3x64x64x1x1 ![] bcast_S_S32x3x64x64x1x1 (constantI S_ 32 0#32)))
      (cmpi .sle n (broadcastInDim S32x3x64x64x1x1 ![0, 1, 2, 3, 4, 5] bcast_S1x1x1x1x1x1_S32x3x64x64x1x1_0_1_2_3_4_5
        (broadcastInDim S1x1x1x1x1x1 ![5] bcast_S1_S1x1x1x1x1x1_5 (constantI S1 32 79#32)))))
    (constantI S_ 1 1#1) reducesTo_S32x3x64x64x1x1_S32x3x64x64x1_d5 h_S_

/-- The class score at a column of class numbers. -/
def takeAlong (s : FVec Ideal S32x3x64x64x80 .f32) (n : IVec S32x3x64x64x1 32) : FVec Ideal S32x3x64x64x1 .f32 :=
  select (inRange (wrapped n))
    (Host.gather gather_S32x3x64x64x80_S32x3x64x64x1x1_S32x3x64x64x1_n_4_0123_0123_4_5_11111 s (wrapped n))
    (broadcastInDim S32x3x64x64x1 ![] bcast_S_S32x3x64x64x1 (constant S_ .f32 0x7FC00000#32))

/-- The log of the sum of the exponentials of the class scores. -/
def lse (s : FVec Ideal S32x3x64x64x80 .f32) : FVec Ideal S32x3x64x64 .f32 :=
  Host.log (Host.reduceAdd (Host.exp s) (constant S_ .f32 0x00000000#32) reducesTo_S32x3x64x64x80_S32x3x64x64_d4 h_S_)

/-- The class score of the target class. -/
def pick (s y : FVec Ideal S32x3x64x64x80 .f32) : FVec Ideal S32x3x64x64 .f32 :=
  flat (takeAlong s (broadcastInDim S32x3x64x64x1 ![0, 1, 2, 3] bcast_S32x3x64x64_S32x3x64x64x1_0_1_2_3 (argmax y)))

/-- The coordinate loss. -/
def locLoss (p t : FVec Ideal S32x3x64x64x85 .f32) : FVec Ideal S_ .f32 :=
  mulf (addf (addf (addf (sqLoss (indicator 0x3F800000#32 (f4 t)) (logistic (f0 p)) (f0 t))
    (sqLoss (indicator 0x3F800000#32 (f4 t)) (logistic (f1 p)) (f1 t)))
    (sqLoss (indicator 0x3F800000#32 (f4 t)) (f2 p) (f2 t)))
    (sqLoss (indicator 0x3F800000#32 (f4 t)) (f3 p) (f3 t))) (constant S_ .f32 0x40A00000#32)

/-- The confidence loss. -/
def confLoss (p t : FVec Ideal S32x3x64x64x85 .f32) : FVec Ideal S_ .f32 :=
  addf (total (mulf (indicator 0x3F800000#32 (f4 t)) (bce (f4 p) (f4 t))))
    (mulf (total (mulf (indicator 0x00000000#32 (f4 t)) (bce (f4 p) (f4 t)))) (constant S_ .f32 0x3F000000#32))

/-- The class loss. -/
def classLoss (p t : FVec Ideal S32x3x64x64x85 .f32) : FVec Ideal S_ .f32 :=
  total (mulf (indicator 0x3F800000#32 (f4 t)) (subf (lse (fc p)) (pick (fc p) (fc t))))

/-- The reference's result as a term over its two arguments. -/
def value (x : FVec Ideal S32x255x64x64 .f32) (t : FVec Ideal S32x3x64x64x85 .f32) : FVec Ideal S_ .f32 :=
  Host.divf (addf (addf (locLoss (preds x) t) (confLoss (preds x) t)) (classLoss (preds x) t))
    (constant S_ .f32 0x42000000#32)

set_option maxHeartbeats 4000000 in
/-- The reference runs, its result ends at `value` of the arguments, and the arguments end unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v95)
        = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp only [StableHlo.TRef.ofBuf_toBuf]
  unfold value
  refine congrArg₂ Host.divf (congrArg₂ addf (congrArg₂ addf ?_ ?_) ?_) rfl
  · unfold locLoss sqLoss indicator logistic total f4 f3 f2 f1 f0 preds flat konst
    rfl
  · unfold confLoss bce indicator total f4 preds flat konst
    rfl
  · unfold classLoss
    refine congrArg total (congrArg₂ mulf ?_ (congrArg₂ subf ?_ ?_))
    · rfl
    · rfl
    · unfold pick
      refine congrArg flat ?_
      unfold takeAlong
      dsimp only [StableHlo.TRef.ofBuf, StableHlo.TRef.toBuf]
      repeat erw [cast_eq]
      refine congr (congrArg₂ select ?_ (congrArg₂ (Host.gather _) ?_ ?_)) ?_
      · rfl
      · rfl
      · rfl
      · rfl

/-- The reference runs, leaves its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m g) fun r h => ⟨fun c => (h c).2, sem_eq_zero_of_no_sems (by decide) r.2⟩

end Cert.ReferenceIdeal.Own
end
-- ==== Proof.KStep.lean ====
module

public import proofs.«01_k».proof.Proof.Gen.KernelIdeal.Frame
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.KernelIdeal.Own

open Idealize.ShloMosaic Idealize.SL.Sem Cert.KernelIdeal Cert.KernelIdeal.Gen

/-- One constant at every position of a row of 4096. -/
def konst (b : BitVec 32) : FVec Ideal S1x4096 .f32 := broadcast S1x4096 (Scalar.ofBits .f32 b)

/-- A group's predictions as the kernel lays them out: 85 channels by 4096 cells. -/
def chans (p : Vec Ideal S1x1x85x4096 .f32) : FVec Ideal S85x4096 .f32 :=
  shapeCast S85x4096 p shapeCasts_S1x1x85x4096_S85x4096

/-- A group's targets, flattened to 4096 cells and turned so that the 85 fields come first. -/
def fields (t : Vec Ideal S1x1x64x64x85 .f32) : FVec Ideal S85x4096 .f32 :=
  transpose S85x4096 [1, 0] (shapeCast S4096x85 (shapeCast S64x64x85 t shapeCasts_S1x1x64x64x85_S64x64x85)
    shapeCasts_S64x64x85_S4096x85) transposes_S4096x85_p1_0_S85x4096

/-- The logistic function as the kernel spells it. -/
def logistic (x : FVec Ideal S1x4096 .f32) : FVec Ideal S1x4096 .f32 :=
  divf (konst 0x3F800000#32) (addf (konst 0x3F800000#32) (exp (subf (konst 0x00000000#32) x)))

/-- The indicator, as a float, of the cells where `x` is the constant with bits `b`. -/
def indicator (b : BitVec 32) (x : FVec Ideal S1x4096 .f32) : FVec Ideal S1x4096 .f32 :=
  sitofp .f32 (extui 32 (cmpf .oeq x (konst b)) natLt_1_32)

/-- The square of a difference. -/
def sqDiff (x y : FVec Ideal S1x4096 .f32) : FVec Ideal S1x4096 .f32 := mulf (subf x y) (subf x y)

/-- The kernel's coordinate term. -/
def locTerm (p t : FVec Ideal S85x4096 .f32) (o : FVec Ideal S1x4096 .f32) : FVec Ideal S1x4096 .f32 :=
  mulf o (addf (addf (addf
    (sqDiff (logistic (extractStridedSlice S1x4096 ![0, 0] p slices_S85x4096_o0_0_S1x4096))
      (extractStridedSlice S1x4096 ![0, 0] t slices_S85x4096_o0_0_S1x4096))
    (sqDiff (logistic (extractStridedSlice S1x4096 ![1, 0] p slices_S85x4096_o1_0_S1x4096))
      (extractStridedSlice S1x4096 ![1, 0] t slices_S85x4096_o1_0_S1x4096)))
    (sqDiff (extractStridedSlice S1x4096 ![2, 0] p slices_S85x4096_o2_0_S1x4096)
      (extractStridedSlice S1x4096 ![2, 0] t slices_S85x4096_o2_0_S1x4096)))
    (sqDiff (extractStridedSlice S1x4096 ![3, 0] p slices_S85x4096_o3_0_S1x4096)
      (extractStridedSlice S1x4096 ![3, 0] t slices_S85x4096_o3_0_S1x4096)))

/-- The kernel's softplus. -/
def softplus (z : FVec Ideal S1x4096 .f32) : FVec Ideal S1x4096 .f32 :=
  addf (maximumf z (konst 0x00000000#32))
    (log (addf (konst 0x3F800000#32) (exp (subf (konst 0x00000000#32) (absf z)))))

/-- The kernel's confidence term. -/
def confTerm (z o nb : FVec Ideal S1x4096 .f32) : FVec Ideal S1x4096 .f32 :=
  addf (mulf o (subf (softplus z) z)) (mulf (konst 0x3F000000#32) (mulf nb (softplus z)))

/-- The largest of the 80 class entries at each cell. -/
def classMax (x : FVec Ideal S80x4096 .f32) : FVec Ideal S1x4096 .f32 :=
  shapeCast S1x4096 (multiReduction .maximumf [0] S4096 x 0xFF800000#32 reduces_S80x4096_S4096 (.inl rfl) rfl)
    shapeCasts_S4096_S1x4096

/-- The sum of the 80 class entries at each cell. -/
def classSum (x : FVec Ideal S80x4096 .f32) : FVec Ideal S1x4096 .f32 :=
  shapeCast S1x4096 (multiReduction .add [0] S4096 x 0x00000000#32 reduces_S80x4096_S4096 (.inl rfl) rfl)
    shapeCasts_S4096_S1x4096

/-- The kernel's shifted log-sum-exp of the class scores. -/
def lse (s : FVec Ideal S80x4096 .f32) : FVec Ideal S1x4096 .f32 :=
  addf (classMax s)
    (log (classSum (exp (subf s (broadcastTo S80x4096 (classMax s) broadcasts_S1x4096_S80x4096)))))

/-- Where a class target is the largest of its cell, its number, and 80 elsewhere. -/
def candidates (y : FVec Ideal S80x4096 .f32) : IVec S80x4096 32 :=
  select (cmpf .oeq y (broadcastTo S80x4096 (classMax y) broadcasts_S1x4096_S80x4096))
    (iota .tc S80x4096 32 [0] iota_S80x4096_d0_w32) (broadcast S80x4096 80#32)

/-- The class scores with every class but the target one put to zero. -/
def picked (s y : FVec Ideal S80x4096 .f32) : FVec Ideal S80x4096 .f32 :=
  select (cmpi .eq (candidates y) (broadcastTo S80x4096
      (shapeCast S1x4096 (multiReductionI .minsi [0] S4096 (candidates y) 2147483647#32 reduces_S80x4096_S4096 rfl)
        shapeCasts_S4096_S1x4096) broadcasts_S1x4096_S80x4096))
    s (broadcast S80x4096 (Scalar.ofBits .f32 0x00000000#32))

/-- The kernel's class term. -/
def classTerm (s y : FVec Ideal S80x4096 .f32) (o : FVec Ideal S1x4096 .f32) : FVec Ideal S1x4096 .f32 :=
  mulf o (subf (lse s) (classSum (picked s y)))

/-- The loss of each of a group's 4096 cells, from the two channel-first layouts. -/
def cellLoss (p t : FVec Ideal S85x4096 .f32) : FVec Ideal S1x4096 .f32 :=
  addf (addf
    (mulf (konst 0x40A00000#32) (locTerm p t
      (indicator 0x3F800000#32 (extractStridedSlice S1x4096 ![4, 0] t slices_S85x4096_o4_0_S1x4096))))
    (confTerm (extractStridedSlice S1x4096 ![4, 0] p slices_S85x4096_o4_0_S1x4096)
      (indicator 0x3F800000#32 (extractStridedSlice S1x4096 ![4, 0] t slices_S85x4096_o4_0_S1x4096))
      (indicator 0x00000000#32 (extractStridedSlice S1x4096 ![4, 0] t slices_S85x4096_o4_0_S1x4096))))
    (classTerm (extractStridedSlice S80x4096 ![5, 0] p slices_S85x4096_o5_0_S80x4096)
      (extractStridedSlice S80x4096 ![5, 0] t slices_S85x4096_o5_0_S80x4096)
      (indicator 0x3F800000#32 (extractStridedSlice S1x4096 ![4, 0] t slices_S85x4096_o4_0_S1x4096)))

/-- The loss of one group: one image and one anchor. -/
def groupLoss (p : Vec Ideal S1x1x85x4096 .f32) (t : Vec Ideal S1x1x64x64x85 .f32) : FVec Ideal S1x1 .f32 :=
  shapeCast S1x1 (multiReduction .add [1] S1 (cellLoss (chans p) (fields t)) 0x00000000#32 reduces_S1x4096_S1
    (.inl rfl) rfl) shapeCasts_S1_S1x1

/-- One grid point's addition to the running total: six groups, two images by three anchors. -/
def pointLoss (x0 : Vec Ideal S2x2x85x4096 .f32) (x1 : Vec Ideal S2x1x85x4096 .f32)
    (x2 : Vec Ideal S2x2x64x64x85 .f32) (x3 : Vec Ideal S2x1x64x64x85 .f32) : FVec Ideal S1x1 .f32 :=
  addf (addf (addf (addf (addf (addf (broadcast S1x1 (Scalar.ofBits .f32 0x00000000#32))
    (groupLoss (View.ld x0 (Rect.unit ![0, 0, 0, 0] ![1, 1, 85, 4096] inb_S2x2x85x4096_S1x1x85x4096_0_0_0_0))
      (View.ld x2 (Rect.unit ![0, 0, 0, 0, 0] ![1, 1, 64, 64, 85] inb_S2x2x64x64x85_S1x1x64x64x85_0_0_0_0_0))))
    (groupLoss (View.ld x0 (Rect.unit ![0, 1, 0, 0] ![1, 1, 85, 4096] inb_S2x2x85x4096_S1x1x85x4096_0_1_0_0))
      (View.ld x2 (Rect.unit ![0, 1, 0, 0, 0] ![1, 1, 64, 64, 85] inb_S2x2x64x64x85_S1x1x64x64x85_0_1_0_0_0))))
    (groupLoss (View.ld x1 (Rect.unit ![0, 0, 0, 0] ![1, 1, 85, 4096] inb_S2x1x85x4096_S1x1x85x4096_0_0_0_0))
      (View.ld x3 (Rect.unit ![0, 0, 0, 0, 0] ![1, 1, 64, 64, 85] inb_S2x1x64x64x85_S1x1x64x64x85_0_0_0_0_0))))
    (groupLoss (View.ld x0 (Rect.unit ![1, 0, 0, 0] ![1, 1, 85, 4096] inb_S2x2x85x4096_S1x1x85x4096_1_0_0_0))
      (View.ld x2 (Rect.unit ![1, 0, 0, 0, 0] ![1, 1, 64, 64, 85] inb_S2x2x64x64x85_S1x1x64x64x85_1_0_0_0_0))))
    (groupLoss (View.ld x0 (Rect.unit ![1, 1, 0, 0] ![1, 1, 85, 4096] inb_S2x2x85x4096_S1x1x85x4096_1_1_0_0))
      (View.ld x2 (Rect.unit ![1, 1, 0, 0, 0] ![1, 1, 64, 64, 85] inb_S2x2x64x64x85_S1x1x64x64x85_1_1_0_0_0))))
    (groupLoss (View.ld x1 (Rect.unit ![1, 0, 0, 0] ![1, 1, 85, 4096] inb_S2x1x85x4096_S1x1x85x4096_1_0_0_0))
      (View.ld x3 (Rect.unit ![1, 0, 0, 0, 0] ![1, 1, 64, 64, 85] inb_S2x1x64x64x85_S1x1x64x64x85_1_0_0_0_0)))

/-- What a grid point leaves in the output block, over what it finds there. -/
def accumulate (x0 : Vec Ideal S2x2x85x4096 .f32) (x1 : Vec Ideal S2x1x85x4096 .f32)
    (x2 : Vec Ideal S2x2x64x64x85 .f32) (x3 : Vec Ideal S2x1x64x64x85 .f32) (prev : FVec Ideal S1x1 .f32) :
    FVec Ideal S1x1 .f32 :=
  addf (shapeCast S1x1 prev shapeCasts_S1x1_S1x1)
    (mulf (pointLoss x0 x1 x2 x3) (broadcast S1x1 (Scalar.ofBits .f32 0x3D000000#32)))

variable (m : (ℓ : Loc nD τ sig) → Buf (Elt Ideal) ℓ)

set_option maxHeartbeats 4000000 in
/-- The first grid point adds its loss to a block of zeros. -/
theorem outsAt_first (c : Dev nD) (t : Fin cfg0.N) (h0 : t.val % 16 = 0) :
    outsAt0 m c t.val t.isLt = accumulate (X0_0 m c t) (iblk m c 1 t) (X0_2 m c t) (iblk m c 3 t)
      (broadcast S1x1 (Scalar.ofBits .f32 0x00000000#32)) := by
  rw [outsAt0_A m c t h0]
  frame_out
  generalize X0_0 m c t = x0, iblk m c 1 t = x1, X0_2 m c t = x2, iblk m c 3 t = x3
  rfl

set_option maxHeartbeats 4000000 in
/-- Every later grid point adds its loss to what the point before left. -/
theorem outsAt_next (c : Dev nD) (t : Fin cfg0.N) (h0 : ¬ t.val % 16 = 0) :
    outsAt0 m c t.val t.isLt = accumulate (X0_0 m c t) (iblk m c 1 t) (X0_2 m c t) (iblk m c 3 t)
      (outsAt0 m c (t.val - 1) (Nat.lt_of_le_of_lt (Nat.sub_le _ _) t.isLt)) := by
  rw [outsAt0_B m c t h0]
  frame_out
  generalize X0_0 m c t = x0, iblk m c 1 t = x1, X0_2 m c t = x2, iblk m c 3 t = x3
  rfl

end Cert.KernelIdeal.Own
end
-- ==== Proof.Cells.lean ====
module

public import Idealize.ShloMosaic.Lib.Pointwise
public import Idealize.ShloMosaic.Lib.IdealHost
public import Idealize.ShloMosaic.PureOps.Ideal.Laws

@[expose] public section

set_option maxRecDepth 16384

noncomputable section

namespace Cert.Cells

open Idealize.ShloMosaic
open scoped BigOperators

/-! ## The constants -/

/-- The pattern of five. -/
theorem ofBits_five : Ideal.ofBits .f32 0x40A00000#32 = ((5 : ℝ) : EReal) := by
  simp [Ideal.ofBits, Ideal.ieee, -EReal.coe_mul]; norm_num

/-- The pattern of one half. -/
theorem ofBits_half : Ideal.ofBits .f32 0x3F000000#32 = (((1 : ℝ) / 2 : ℝ) : EReal) := by
  simp [Ideal.ofBits, Ideal.ieee, -EReal.coe_mul]; norm_num

/-- The pattern of one over thirty-two. -/
theorem ofBits_recip : Ideal.ofBits .f32 0x3D000000#32 = (((1 : ℝ) / 32 : ℝ) : EReal) := by
  simp [Ideal.ofBits, Ideal.ieee, -EReal.coe_mul]; norm_num

/-- The pattern of thirty-two. -/
theorem ofBits_batch : Ideal.ofBits .f32 0x42000000#32 = ((32 : ℝ) : EReal) := by
  simp [Ideal.ofBits, Ideal.ieee, -EReal.coe_mul]; norm_num

/-- The pattern of minus infinity. -/
theorem ofBits_bot : Ideal.ofBits .f32 0xFF800000#32 = (⊥ : EReal) := by
  simp [Ideal.ofBits, Ideal.ieee]

/-- The pattern of plus infinity. -/
theorem ofBits_top : Ideal.ofBits .f32 0x7F800000#32 = (⊤ : EReal) := by
  simp [Ideal.ofBits, Ideal.ieee]

/-! ## Scaling by a finite nonnegative number -/

/-- Multiplication on the right by a nonnegative real goes through a sum of two. -/
theorem add_scale {c : ℝ} (hc : 0 ≤ c) (a b : EReal) : (a + b) * (c : EReal) = a * c + b * c :=
  EReal.right_distrib_of_nonneg_of_ne_top (EReal.coe_nonneg.2 hc) (EReal.coe_ne_top c) a b

/-- Multiplication on the right by a nonnegative real goes through a finite sum. -/
theorem sum_scale {ι : Type} {c : ℝ} (hc : 0 ≤ c) (s : Finset ι) (f : ι → EReal) :
    (∑ i ∈ s, f i) * (c : EReal) = ∑ i ∈ s, f i * c := by
  classical
  induction s using Finset.induction_on with
  | empty => simp
  | insert a s ha ih => rw [Finset.sum_insert ha, Finset.sum_insert ha, add_scale hc, ih]

/-- Dividing by thirty-two is multiplying by its reciprocal. -/
theorem div_batch (x : EReal) : Ideal.div x ((32 : ℝ) : EReal) = x * (((1 : ℝ) / 32 : ℝ) : EReal) := by
  unfold Ideal.div
  rw [if_neg (by norm_num), ← EReal.coe_inv, one_div]

/-! ## The log of a sum of exponentials -/

/-- Below plus infinity the exponential is a nonnegative real. -/
theorem exp_real {x : EReal} (hx : x < ⊤) : ∃ e : ℝ, 0 ≤ e ∧ Ideal.exp x = (e : EReal) ∧
    ∀ r : ℝ, Ideal.exp (x - r) = ((e * Real.exp (-r) : ℝ) : EReal) := by
  induction x with
  | bot => exact ⟨0, le_rfl, rfl, fun r => by rw [EReal.bot_sub, zero_mul]; rfl⟩
  | coe y =>
    refine ⟨Real.exp y, (Real.exp_pos y).le, rfl, fun r => ?_⟩
    rw [← Real.exp_add, ← sub_eq_add_neg, ← EReal.coe_sub]
    rfl
  | top => exact absurd hx (lt_irrefl _)

/-- A sum of coerced reals is the coercion of their sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The logarithm of a positive real. -/
theorem log_coe {r : ℝ} (hr : 0 < r) : Ideal.log (r : EReal) = (Real.log r : EReal) := by
  show (if r ≤ 0 then (⊥ : EReal) else (Real.log r : EReal)) = _
  rw [if_neg (not_le.2 hr)]

/-- The fold of `max` from minus infinity is the largest entry. -/
theorem fold_max_eq {n : Nat} (f : Fin n → EReal) (k : Fin n) (hk : ∀ j, f j ≤ f k) :
    Finset.fold max (⊥ : EReal) f Finset.univ = f k :=
  le_antisymm ((Finset.fold_max_le _).2 ⟨bot_le, fun j _ => hk j⟩)
    ((Finset.le_fold_max _).2 (Or.inr ⟨k, Finset.mem_univ k, le_rfl⟩))

/-- Scores below plus infinity: the log of the sum of their exponentials is what comes out when the largest is
    taken off first and put back after. -/
theorem lse_shift {n : Nat} (f : Fin n → EReal) (hf : ∀ j, f j < ⊤) (k : Fin n) (hk : ∀ j, f j ≤ f k) :
    f k + Ideal.log (∑ j, Ideal.exp (f j - f k)) = Ideal.log (∑ j, Ideal.exp (f j)) := by
  rcases eq_or_ne (f k) ⊥ with hb | hb
  · have h0 : ∀ j, f j = ⊥ := fun j => le_bot_iff.1 (hb ▸ hk j)
    have hs : (∑ j, Ideal.exp (f j)) = ((0 : ℝ) : EReal) := by
      rw [Finset.sum_congr rfl (g := fun _ => (0 : EReal)) fun j _ => by rw [h0 j]; rfl]
      simp
    rw [hs, hb, EReal.bot_add]
    show (⊥ : EReal) = if (0 : ℝ) ≤ 0 then (⊥ : EReal) else _
    rw [if_pos le_rfl]
  · obtain ⟨r, hr⟩ : ∃ r : ℝ, f k = (r : EReal) := ⟨(f k).toReal, (EReal.coe_toReal (hf k).ne hb).symm⟩
    choose e he he1 he2 using fun j => exp_real (hf j)
    have hek : e k = Real.exp r := by
      have := he1 k
      rw [hr] at this
      exact (EReal.coe_eq_coe_iff.1 this).symm
    have hpos : 0 < ∑ j, e j :=
      lt_of_lt_of_le (hek ▸ Real.exp_pos r) (Finset.single_le_sum (fun j _ => he j) (Finset.mem_univ k))
    rw [hr, Finset.sum_congr rfl fun j _ => he2 j r, Finset.sum_congr rfl fun j _ => he1 j, coe_sum, coe_sum,
      ← Finset.sum_mul, log_coe (mul_pos hpos (Real.exp_pos _)), log_coe hpos,
      Real.log_mul hpos.ne' (Real.exp_pos _).ne', Real.log_exp, ← EReal.coe_add]
    congr 1
    ring

/-! ## The first largest entry -/

/-- A finite family has a first largest entry. -/
theorem exists_first {n : Nat} (f : Fin (n + 1) → EReal) :
    ∃ k, (∀ j, f j ≤ f k) ∧ ∀ j, j < k → f j < f k := by
  classical
  obtain ⟨k0, h0⟩ := Finite.exists_max f
  have hne : (Finset.univ.filter fun k => ∀ j, f j ≤ f k).Nonempty := ⟨k0, by simpa using h0⟩
  have hm := Finset.min'_mem _ hne
  refine ⟨_, (Finset.mem_filter.1 hm).2, fun j hj => ?_⟩
  by_contra hc
  have hj' : j ∈ Finset.univ.filter fun k => ∀ j, f j ≤ f k :=
    Finset.mem_filter.2 ⟨Finset.mem_univ _, fun i => ((Finset.mem_filter.1 hm).2 i).trans (not_lt.1 hc)⟩
  exact absurd (Finset.min'_le _ j hj') (not_le.2 hj)

/-- The number of the first largest entry. -/
def first (f : Fin 80 → EReal) : Fin 80 := (exists_first f).choose

/-- The first largest entry is at least every entry. -/
theorem le_first (f : Fin 80 → EReal) (j : Fin 80) : f j ≤ f (first f) := (exists_first f).choose_spec.1 j

/-- Entries before the first largest are strictly smaller. -/
theorem lt_first (f : Fin 80 → EReal) (j : Fin 80) (h : j < first f) : f j < f (first f) :=
  (exists_first f).choose_spec.2 j h

/-- Read signed, the smaller of two words is the smaller of the two integers. -/
theorem toInt_minsi (x y : BitVec 32) : (IntOp.minsi x y).toInt = min x.toInt y.toInt := by
  unfold IntOp.minsi
  by_cases h : x.toInt < y.toInt
  · rw [if_pos (BitVec.slt_iff_toInt_lt.2 h), min_eq_left h.le]
  · rw [if_neg (fun hc => h (BitVec.slt_iff_toInt_lt.1 hc)), min_eq_right (not_lt.1 h)]

/-- A small number read back signed. -/
theorem toInt_small (k : Fin 80) : (BitVec.ofNat 32 k.val).toInt = (k.val : ℤ) := by
  have := k.isLt
  rw [BitVec.toInt_eq_toNat_of_lt (by rw [BitVec.toNat_ofNat]; omega), BitVec.toNat_ofNat]
  omega

/-- The kernel's candidates: a class's number where its target is the largest, 80 elsewhere. -/
def cand (t : Fin 80 → EReal) (k : Fin 80) : BitVec 32 :=
  if t k = t (first t) then BitVec.ofNat 32 k.val else 80#32

/-- At the first largest entry the candidate is its own number. -/
theorem cand_first (t : Fin 80 → EReal) : cand t (first t) = BitVec.ofNat 32 (first t).val := if_pos rfl

/-- The smallest candidate is the number of the first largest entry. -/
theorem fold_cand (t : Fin 80 → EReal) :
    Finset.fold IntOp.minsi 2147483647#32 (cand t) Finset.univ = BitVec.ofNat 32 (first t).val := by
  refine BitVec.eq_of_toInt_eq ?_
  rw [← Finset.fold_hom (op' := min) (m := BitVec.toInt) toInt_minsi, toInt_small]
  have hlt := (first t).isLt
  refine le_antisymm ((Finset.fold_min_le _).2 (Or.inr ⟨first t, Finset.mem_univ _, ?_⟩)) ((Finset.le_fold_min _).2 ⟨?_, ?_⟩)
  · rw [cand_first, toInt_small]
  · show ((first t).val : ℤ) ≤ 2147483647
    omega
  · intro j _
    unfold cand
    split_ifs with h
    · rw [toInt_small]
      by_contra hc
      exact absurd h (lt_first t j (by rw [Fin.lt_def]; omega)).ne
    · show ((first t).val : ℤ) ≤ 80
      omega

/-- The kernel's masked sum of the class scores is the score of the first largest target. -/
theorem sum_pick (c t : Fin 80 → EReal) :
    (∑ k, Scalar.select (IntOp.cmpi .eq (cand t k) (BitVec.ofNat 32 (first t).val)) (c k) 0) = c (first t) := by
  rw [Finset.sum_eq_single (first t)]
  · rw [cand_first]
    show Scalar.select (BitVec.ofBool (BitVec.ofNat 32 (first t).val == BitVec.ofNat 32 (first t).val)) _ _ = _
    rw [beq_self_eq_true]
    rfl
  · intro k _ hk
    have hne : cand t k ≠ BitVec.ofNat 32 (first t).val := by
      intro h
      have h' := congrArg BitVec.toInt h
      rw [toInt_small] at h'
      unfold cand at h'
      have hlt := (first t).isLt
      split_ifs at h' with h1
      · rw [toInt_small] at h'
        exact hk (Fin.ext (by omega))
      · have : (80 : ℤ) = ((first t).val : ℤ) := h'
        omega
    show Scalar.select (BitVec.ofBool (cand t k == BitVec.ofNat 32 (first t).val)) _ _ = _
    rw [beq_eq_false_iff_ne.2 hne]
    rfl
  · intro h
    exact absurd (Finset.mem_univ _) h

/-! ## One cell's losses -/

/-- One where the target is `v`, zero elsewhere. -/
def ind (v y : EReal) : EReal := if y = v then 1 else 0

/-- The logistic function. -/
def logi (x : EReal) : EReal := Ideal.div 1 (1 + Ideal.exp (-x))

/-- The absolute value. -/
def mag (z : EReal) : EReal := max z (-z)

/-- The part of the confidence loss without the target. -/
def soft (z : EReal) : EReal := max z 0 + Ideal.log (1 + Ideal.exp (-mag z))

/-- The square of a difference. -/
def dist2 (a b : EReal) : EReal := (a - b) * (a - b)

/-- The class scores of a cell. -/
def cls (p : Fin 85 → EReal) (k : Fin 80) : EReal := p ⟨5 + k.val, by omega⟩

/-- What the kernel adds for one cell, from its 85 predictions and 85 targets. -/
def kcell (p t : Fin 85 → EReal) : EReal :=
  ((5 : ℝ) : EReal) * (ind 1 (t 4) * (dist2 (logi (p 0)) (t 0) + dist2 (logi (p 1)) (t 1) + dist2 (p 2) (t 2) + dist2 (p 3) (t 3)))
    + (ind 1 (t 4) * (soft (p 4) - p 4) + (((1 : ℝ) / 2 : ℝ) : EReal) * (ind 0 (t 4) * soft (p 4)))
    + ind 1 (t 4) * (cls p (first (cls p)) + Ideal.log (∑ k, Ideal.exp (cls p k - cls p (first (cls p))))
      - cls p (first (cls t)))

/-- The reference's confidence loss of a cell. -/
def bce (z y : EReal) : EReal := soft z - z * y

/-- The reference's class loss of a cell. -/
def xent (p t : Fin 85 → EReal) : EReal := Ideal.log (∑ k, Ideal.exp (cls p k)) - cls p (first (cls t))

/-- A comparison's bit, widened and read as a float, is the indicator. -/
theorem sitofp_eq (v y : EReal) :
    FloatOps.sitofp (F := Ideal) .f32 (BitVec.setWidth 32 (BitVec.ofBool (decide (y = v)))) = ind v y := by
  unfold ind
  by_cases h : y = v
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

/-- A comparison's bit read as a float is the indicator. -/
theorem uitofp_eq (v y : EReal) :
    FloatOps.uitofp (F := Ideal) .f32 (BitVec.ofBool (decide (y = v))) = ind v y := by
  unfold ind
  by_cases h : y = v
  · rw [if_pos h, decide_eq_true h]
    show (((BitVec.ofBool true).toNat : ℝ) : EReal) = 1
    rw [show (BitVec.ofBool true).toNat = 1 by decide]
    norm_num
  · rw [if_neg h, decide_eq_false h]
    show (((BitVec.ofBool false).toNat : ℝ) : EReal) = 0
    rw [show (BitVec.ofBool false).toNat = 0 by decide]
    norm_num

/-- An indicator's product is the factor or zero. -/
theorem ind_mul (v y x : EReal) : ind v y * x = if y = v then x else 0 := by
  unfold ind
  split_ifs
  · rw [one_mul]
  · rw [zero_mul]

/-- A cell's contribution in the reference's terms. -/
theorem kcell_eq (p t : Fin 85 → EReal) (hp : ∀ k, cls p k < ⊤) :
    kcell p t
      = (ind 1 (t 4) * dist2 (logi (p 0)) (t 0) + ind 1 (t 4) * dist2 (logi (p 1)) (t 1) + ind 1 (t 4) * dist2 (p 2) (t 2)
          + ind 1 (t 4) * dist2 (p 3) (t 3)) * ((5 : ℝ) : EReal)
        + (ind 1 (t 4) * bce (p 4) (t 4) + ind 0 (t 4) * bce (p 4) (t 4) * (((1 : ℝ) / 2 : ℝ) : EReal))
        + ind 1 (t 4) * xent p t := by
  unfold kcell xent bce
  rw [lse_shift (cls p) hp _ (le_first (cls p))]
  simp only [ind_mul]
  by_cases h1 : t 4 = 1
  · have h0 : ¬ t 4 = 0 := by rw [h1]; exact one_ne_zero
    rw [if_pos h1, if_pos h1, if_neg h0, if_pos h1, if_pos h1, if_pos h1, if_pos h1, if_pos h1, if_pos h1, if_neg h0,
      h1, mul_one, mul_zero, zero_mul, mul_comm]
  · by_cases h0 : t 4 = 0
    · simp only [if_neg h1, if_pos h0]
      rw [h0, mul_zero, mul_zero, sub_zero]
      simp only [zero_add, add_zero, zero_mul]
      rw [mul_comm]
    · simp only [if_neg h1, if_neg h0, mul_zero, zero_mul, zero_add, add_zero]

end Cert.Cells

end
-- ==== Proof.KGroup.lean ====
module

public import proofs.«01_k».proof.Proof.KStep
public import proofs.«01_k».proof.Proof.Cells

@[expose] public section

set_option maxRecDepth 16384

noncomputable section

namespace Cert.KernelIdeal.Own

open Idealize.ShloMosaic Idealize.SL.Sem Cert.KernelIdeal Cert.KernelIdeal.Gen Cert.Cells
open scoped BigOperators

/-- The predictions of one cell of a group. -/
def cellP (p : Vec Ideal S1x1x85x4096 .f32) (x : Fin 4096) : Fin 85 → EReal := fun ch => p (ix4 0 0 ch x)

/-- The targets of one cell of a group. -/
def cellT (t : Vec Ideal S1x1x64x64x85 .f32) (x : Fin 4096) : Fin 85 → EReal :=
  fun f => t (ix5 0 0 ⟨x.val / 64, by omega⟩ ⟨x.val % 64, by omega⟩ f)

/-- A group's loss is the sum of its cells'. -/
theorem groupLoss_eq (p : Vec Ideal S1x1x85x4096 .f32) (t : Vec Ideal S1x1x64x64x85 .f32) :
    groupLoss p t (ix2 0 0) = ∑ x : Fin 4096, kcell (cellP p x) (cellT t x) := by
  pointwise [groupLoss, cellLoss, chans, fields, konst, classTerm, confTerm, locTerm, indicator, softplus, logistic,
    lse, picked, candidates, classSum, classMax, sqDiff]
  refine Finset.sum_congr rfl fun x _ => ?_
  have hp : Finset.fold max (Ideal.ofBits .f32 4286578688#32) (fun k => cls (cellP p x) k) Finset.univ
      = cls (cellP p x) (first (cls (cellP p x))) := by
    rw [ofBits_bot]
    exact fold_max_eq _ _ (le_first _)
  have ht : Finset.fold max (Ideal.ofBits .f32 4286578688#32) (fun k => cls (cellT t x) k) Finset.univ
      = cls (cellT t x) (first (cls (cellT t x))) := by
    rw [ofBits_bot]
    exact fold_max_eq _ _ (le_first _)
  unfold kcell
  rw [← sum_pick (cls (cellP p x)) (cls (cellT t x)), ← fold_cand (cls (cellT t x)), ← hp]
  unfold cand
  rw [← ht, ← ofBits_five, ← ofBits_half]
  unfold dist2 logi soft
  simp only [← zero_sub, ← sitofp_eq]
  unfold mag
  rfl

end Cert.KernelIdeal.Own

end
-- ==== Proof.KValue.lean ====
module

public import proofs.«01_k».proof.Proof.KGroup

@[expose] public section

set_option maxRecDepth 16384

noncomputable section

namespace Cert.KernelIdeal.Own

open Idealize.ShloMosaic Idealize.SL.Sem Cert.KernelIdeal Cert.KernelIdeal.Gen Cert.Cells
open scoped BigOperators

variable (m : (ℓ : Loc nD τ sig) → Buf (Elt Ideal) ℓ)

/-- The predictions. -/
abbrev pr (c : Dev nD) : FVec Ideal S32x255x64x64 .f32 := m ((c.tc : Thread nD τ).loc main_arg0)

/-- The targets. -/
abbrev tg (c : Dev nD) : FVec Ideal S32x3x64x64x85 .f32 := m ((c.tc : Thread nD τ).loc main_arg1)

/-- Where each window's block starts, at every grid point. -/
theorem starts : ∀ t : Fin cfg0.N, win0_0.index t = ![t.val, 0, 0, 0] ∧ win0_1.index t = ![t.val, 2, 0, 0]
    ∧ win0_2.index t = ![t.val, 0, 0, 0, 0] ∧ win0_3.index t = ![t.val, 2, 0, 0, 0] := by decide +kernel

/-- The predictions as the region finds them: three anchors of 85 channels, the cells in one row. -/
theorem entry_preds (c : Dev nD) (b : Fin 32) (a : Fin 3) (ch : Fin 85) (x : Fin 4096) :
    V m c main_v0 (ix4 b a ch x)
      = pr m c (ix4 b ⟨a.val * 85 + ch.val, by omega⟩ ⟨x.val / 64, by omega⟩ ⟨x.val % 64, by omega⟩) := by
  have e : V m c main_v0 = shapeCast S32x3x85x4096 (pr m c) shapeCasts_S32x255x64x64_S32x3x85x4096 := by
    rfl
  rw [e]
  pointwise []

/-- The predictions' first block: the first two anchors of images `2t` and `2t + 1`. -/
theorem block0 (c : Dev nD) (t : Fin cfg0.N) (i a : Fin 2) (ch : Fin 85) (x : Fin 4096) :
    X0_0 m c t (ix4 i a ch x) = pr m c
      (ix4 ⟨t.val * 2 + i.val, by have : t.val < 16 := t.isLt; omega⟩ ⟨a.val * 85 + ch.val, by omega⟩
        ⟨x.val / 64, by omega⟩ ⟨x.val % 64, by omega⟩) := by
  unfold X0_0 Pipeline.Window.fill
  rw [dif_pos (moved0_0 t _)]
  refine Eq.trans ?_ (entry_preds m c ⟨t.val * 2 + i.val, by have : t.val < 16 := t.isLt; omega⟩ ⟨a.val, by omega⟩ ch x)
  blk_ext [iblk, V, starts t]

/-- The predictions' second block: the third anchor. -/
theorem block1 (c : Dev nD) (t : Fin cfg0.N) (i : Fin 2) (ch : Fin 85) (x : Fin 4096) :
    iblk m c 1 t (ix4 i 0 ch x) = pr m c
      (ix4 ⟨t.val * 2 + i.val, by have : t.val < 16 := t.isLt; omega⟩ ⟨2 * 85 + ch.val, by omega⟩
        ⟨x.val / 64, by omega⟩ ⟨x.val % 64, by omega⟩) := by
  refine Eq.trans ?_ (entry_preds m c ⟨t.val * 2 + i.val, by have : t.val < 16 := t.isLt; omega⟩ 2 ch x)
  blk_ext [iblk, V, starts t]

/-- The targets' first block. -/
theorem block2 (c : Dev nD) (t : Fin cfg0.N) (i a : Fin 2) (h w : Fin 64) (f : Fin 85) :
    X0_2 m c t (ix5 i a h w f) = tg m c
      (ix5 ⟨t.val * 2 + i.val, by have : t.val < 16 := t.isLt; omega⟩ ⟨a.val, by omega⟩ h w f) := by
  unfold X0_2 Pipeline.Window.fill
  rw [dif_pos (moved0_2 t _)]
  blk_ext [iblk, V, starts t]

/-- The targets' second block. -/
theorem block3 (c : Dev nD) (t : Fin cfg0.N) (i : Fin 2) (h w : Fin 64) (f : Fin 85) :
    iblk m c 3 t (ix5 i 0 h w f) = tg m c
      (ix5 ⟨t.val * 2 + i.val, by have : t.val < 16 := t.isLt; omega⟩ 2 h w f) := by
  blk_ext [iblk, V, starts t]

end Cert.KernelIdeal.Own

end
-- ==== Proof.KTotal.lean ====
module

public import proofs.«01_k».proof.Proof.KValue

@[expose] public section

set_option maxRecDepth 16384

noncomputable section

namespace Cert.KernelIdeal.Own

open Idealize.ShloMosaic Idealize.SL.Sem Cert.KernelIdeal Cert.KernelIdeal.Gen Cert.Cells
open scoped BigOperators

/-- Reading one image and one anchor of the predictions' first block. -/
theorem ld_p0 (x0 : Vec Ideal S2x2x85x4096 .f32) (i a : Fin 2)
    (h : ∀ d, (![i.val, a.val, 0, 0] : Fin 4 → Nat) d + S1x1x85x4096.size d ≤ S2x2x85x4096.size d) (x : Fin 4096) :
    cellP (View.ld x0 (Rect.unit ![i.val, a.val, 0, 0] ![1, 1, 85, 4096] h)) x = fun ch => x0 (ix4 i a ch x) := by
  funext ch
  refine congrArg x0 ?_
  funext d
  fin_cases d <;> · apply Fin.ext; simp [Rect.unit]; try rfl

/-- Reading one image of the predictions' second block. -/
theorem ld_p1 (x1 : Vec Ideal S2x1x85x4096 .f32) (i : Fin 2)
    (h : ∀ d, (![i.val, 0, 0, 0] : Fin 4 → Nat) d + S1x1x85x4096.size d ≤ S2x1x85x4096.size d) (x : Fin 4096) :
    cellP (View.ld x1 (Rect.unit ![i.val, 0, 0, 0] ![1, 1, 85, 4096] h)) x = fun ch => x1 (ix4 i 0 ch x) := by
  funext ch
  refine congrArg x1 ?_
  funext d
  fin_cases d <;> · apply Fin.ext; simp [Rect.unit]; try rfl

/-- Reading one image and one anchor of the targets' first block. -/
theorem ld_t0 (x2 : Vec Ideal S2x2x64x64x85 .f32) (i a : Fin 2)
    (h : ∀ d, (![i.val, a.val, 0, 0, 0] : Fin 5 → Nat) d + S1x1x64x64x85.size d ≤ S2x2x64x64x85.size d)
    (x : Fin 4096) :
    cellT (View.ld x2 (Rect.unit ![i.val, a.val, 0, 0, 0] ![1, 1, 64, 64, 85] h)) x
      = fun f => x2 (ix5 i a ⟨x.val / 64, by omega⟩ ⟨x.val % 64, by omega⟩ f) := by
  funext f
  refine congrArg x2 ?_
  funext d
  fin_cases d <;> · apply Fin.ext; simp [Rect.unit]; try rfl

/-- Reading one image of the targets' second block. -/
theorem ld_t1 (x3 : Vec Ideal S2x1x64x64x85 .f32) (i : Fin 2)
    (h : ∀ d, (![i.val, 0, 0, 0, 0] : Fin 5 → Nat) d + S1x1x64x64x85.size d ≤ S2x1x64x64x85.size d)
    (x : Fin 4096) :
    cellT (View.ld x3 (Rect.unit ![i.val, 0, 0, 0, 0] ![1, 1, 64, 64, 85] h)) x
      = fun f => x3 (ix5 i 0 ⟨x.val / 64, by omega⟩ ⟨x.val % 64, by omega⟩ f) := by
  funext f
  refine congrArg x3 ?_
  funext d
  fin_cases d <;> · apply Fin.ext; simp [Rect.unit]; try rfl

variable (m : (ℓ : Loc nD τ sig) → Buf (Elt Ideal) ℓ)

/-- One cell's predictions, by image, anchor and place in the row of cells. -/
def pCell (c : Dev nD) (b : Fin 32) (a : Fin 3) (x : Fin 4096) : Fin 85 → EReal := fun ch =>
  pr m c (ix4 b ⟨a.val * 85 + ch.val, by omega⟩ ⟨x.val / 64, by omega⟩ ⟨x.val % 64, by omega⟩)

/-- One cell's targets. -/
def tCell (c : Dev nD) (b : Fin 32) (a : Fin 3) (x : Fin 4096) : Fin 85 → EReal := fun f =>
  tg m c (ix5 b a ⟨x.val / 64, by omega⟩ ⟨x.val % 64, by omega⟩ f)

/-- The loss of one anchor of one image. -/
def anchorSum (c : Dev nD) (b : Fin 32) (a : Fin 3) : EReal := ∑ x : Fin 4096, kcell (pCell m c b a x) (tCell m c b a x)

/-- The image that grid point `t` treats as its `i`-th. -/
def img (t : Fin cfg0.N) (i : Fin 2) : Fin 32 := ⟨t.val * 2 + i.val, by have : t.val < 16 := t.isLt; omega⟩

/-- A group read from the first blocks. -/
theorem group_first (c : Dev nD) (t : Fin cfg0.N) (i a : Fin 2)
    (h : ∀ d, (![i.val, a.val, 0, 0] : Fin 4 → Nat) d + S1x1x85x4096.size d ≤ S2x2x85x4096.size d)
    (h' : ∀ d, (![i.val, a.val, 0, 0, 0] : Fin 5 → Nat) d + S1x1x64x64x85.size d ≤ S2x2x64x64x85.size d) :
    groupLoss (View.ld (X0_0 m c t) (Rect.unit ![i.val, a.val, 0, 0] ![1, 1, 85, 4096] h))
      (View.ld (X0_2 m c t) (Rect.unit ![i.val, a.val, 0, 0, 0] ![1, 1, 64, 64, 85] h')) (ix2 0 0)
      = anchorSum m c (img t i) ⟨a.val, by omega⟩ := by
  rw [groupLoss_eq]
  refine Finset.sum_congr rfl fun x _ => ?_
  rw [ld_p0, ld_t0]
  congr 1
  · funext ch
    exact block0 m c t i a ch x
  · funext f
    exact block2 m c t i a _ _ f

/-- A group read from the second blocks. -/
theorem group_second (c : Dev nD) (t : Fin cfg0.N) (i : Fin 2)
    (h : ∀ d, (![i.val, 0, 0, 0] : Fin 4 → Nat) d + S1x1x85x4096.size d ≤ S2x1x85x4096.size d)
    (h' : ∀ d, (![i.val, 0, 0, 0, 0] : Fin 5 → Nat) d + S1x1x64x64x85.size d ≤ S2x1x64x64x85.size d) :
    groupLoss (View.ld (iblk m c 1 t) (Rect.unit ![i.val, 0, 0, 0] ![1, 1, 85, 4096] h))
      (View.ld (iblk m c 3 t) (Rect.unit ![i.val, 0, 0, 0, 0] ![1, 1, 64, 64, 85] h')) (ix2 0 0)
      = anchorSum m c (img t i) 2 := by
  rw [groupLoss_eq]
  refine Finset.sum_congr rfl fun x _ => ?_
  rw [ld_p1, ld_t1]
  congr 1
  · funext ch
    exact block1 m c t i ch x
  · funext f
    exact block3 m c t i _ _ f

/-- A grid point's loss is that of its two images' three anchors. -/
theorem pointLoss_eq (c : Dev nD) (t : Fin cfg0.N) :
    pointLoss (X0_0 m c t) (iblk m c 1 t) (X0_2 m c t) (iblk m c 3 t) (ix2 0 0)
      = ∑ i : Fin 2, ∑ a : Fin 3, anchorSum m c (img t i) a := by
  have h00 := group_first m c t 0 0 inb_S2x2x85x4096_S1x1x85x4096_0_0_0_0 inb_S2x2x64x64x85_S1x1x64x64x85_0_0_0_0_0
  have h01 := group_first m c t 0 1 inb_S2x2x85x4096_S1x1x85x4096_0_1_0_0 inb_S2x2x64x64x85_S1x1x64x64x85_0_1_0_0_0
  have h02 := group_second m c t 0 inb_S2x1x85x4096_S1x1x85x4096_0_0_0_0 inb_S2x1x64x64x85_S1x1x64x64x85_0_0_0_0_0
  have h10 := group_first m c t 1 0 inb_S2x2x85x4096_S1x1x85x4096_1_0_0_0 inb_S2x2x64x64x85_S1x1x64x64x85_1_0_0_0_0
  have h11 := group_first m c t 1 1 inb_S2x2x85x4096_S1x1x85x4096_1_1_0_0 inb_S2x2x64x64x85_S1x1x64x64x85_1_1_0_0_0
  have h12 := group_second m c t 1 inb_S2x1x85x4096_S1x1x85x4096_1_0_0_0 inb_S2x1x64x64x85_S1x1x64x64x85_1_0_0_0_0
  have e : ∀ (z g1 g2 g3 g4 g5 g6 : FVec Ideal S1x1 .f32),
      addf (addf (addf (addf (addf (addf z g1) g2) g3) g4) g5) g6 (ix2 0 0)
        = z (ix2 0 0) + g1 (ix2 0 0) + g2 (ix2 0 0) + g3 (ix2 0 0) + g4 (ix2 0 0) + g5 (ix2 0 0) + g6 (ix2 0 0) :=
    fun _ _ _ _ _ _ _ => rfl
  have z : broadcast S1x1 (Scalar.ofBits (F := Ideal) .f32 0x00000000#32) (ix2 0 0) = (0 : EReal) := by
    pointwise []
  unfold pointLoss
  rw [e, z, Fin.sum_univ_two, Fin.sum_univ_three, Fin.sum_univ_three]
  refine Eq.trans (congr (congrArg _ (congr (congrArg _ (congr (congrArg _ (congr (congrArg _ (congr (congrArg _
    (congrArg (fun y => (0 : EReal) + y) h00)) h01)) h02)) h10)) h11)) h12) ?_
  rw [zero_add, add_assoc, add_assoc, ← add_assoc (anchorSum m c (img t 1) _)]
  rfl

/-- The loss of the `n`-th grid point, already divided by the batch. -/
def step (c : Dev nD) (n : ℕ) : EReal :=
  if h : n < 16 then (∑ i : Fin 2, ∑ a : Fin 3, anchorSum m c (img ⟨n, h⟩ i) a) * (((1 : ℝ) / 32 : ℝ) : EReal) else 0

/-- What a grid point adds to its block. -/
theorem accumulate_eq (c : Dev nD) (t : Fin cfg0.N) (prev : FVec Ideal S1x1 .f32) :
    accumulate (X0_0 m c t) (iblk m c 1 t) (X0_2 m c t) (iblk m c 3 t) prev (ix2 0 0)
      = prev (ix2 0 0) + step m c t.val := by
  have hl := pointLoss_eq m c t
  unfold accumulate step
  generalize pointLoss (X0_0 m c t) (iblk m c 1 t) (X0_2 m c t) (iblk m c 3 t) = P at hl ⊢
  rw [dif_pos (show t.val < 16 from t.isLt)]
  have e : addf (shapeCast S1x1 prev shapeCasts_S1x1_S1x1) (mulf P (broadcast S1x1 (Scalar.ofBits .f32 0x3D000000#32)))
      (ix2 0 0) = prev (ix2 0 0) + P (ix2 0 0) * Ideal.ofBits .f32 0x3D000000#32 := by
    pointwise []
  rw [e, hl, ofBits_recip]

/-- After each grid point the block holds the sum of the points so far. -/
theorem outsAt_sum (c : Dev nD) : ∀ (n : ℕ) (h : n < cfg0.N),
    outsAt0 m c n h (ix2 0 0) = ∑ k ∈ Finset.range (n + 1), step m c k
  | 0, h => by
    have e := outsAt_first m c ⟨0, h⟩ rfl
    refine (congrFun e _).trans ?_
    rw [accumulate_eq, Finset.sum_range_one]
    have z : broadcast S1x1 (Scalar.ofBits (F := Ideal) .f32 0x00000000#32) (ix2 0 0) = (0 : EReal) := by
      pointwise []
    rw [z, zero_add]
  | n + 1, h => by
    have hn : n + 1 < 16 := h
    have e := outsAt_next m c ⟨n + 1, h⟩ (by show ¬ (n + 1) % 16 = 0; omega)
    refine (congrFun e _).trans ?_
    rw [accumulate_eq, Finset.sum_range_succ]
    exact congrArg (· + _) (outsAt_sum c n (by omega))

/-- After the last grid point the block holds the whole loss over the batch. -/
theorem outsAt_last (c : Dev nD) (h : 15 < cfg0.N) :
    outsAt0 m c 15 h (ix2 0 0)
      = (∑ b : Fin 32, ∑ a : Fin 3, anchorSum m c b a) * (((1 : ℝ) / 32 : ℝ) : EReal) := by
  rw [outsAt_sum, Finset.sum_range]
  have e : ∀ k : Fin 16, step m c k.val
      = (∑ i : Fin 2, ∑ a : Fin 3, anchorSum m c (img ⟨k.val, k.isLt⟩ i) a) * (((1 : ℝ) / 32 : ℝ) : EReal) :=
    fun k => dif_pos k.isLt
  rw [Finset.sum_congr rfl fun k _ => e k, ← sum_scale (by exact_mod_cast (by norm_num : (0 : ℝ) ≤ 1 / 32))]
  congr 1
  exact Fin.sum_mul_add_congr fun s k hl => rfl

end Cert.KernelIdeal.Own

end
-- ==== Proof.KRun.lean ====
module

public import proofs.«01_k».proof.Proof.KTotal

@[expose] public section

set_option maxRecDepth 16384

noncomputable section

namespace Cert.KernelIdeal.Own

open Idealize.ShloMosaic Idealize.SL.Sem Cert.KernelIdeal Cert.KernelIdeal.Gen Cert.Cells
open scoped BigOperators

variable (m : (ℓ : Loc nD τ sig) → Buf (Elt Ideal) ℓ)

/-- The whole loss, as the kernel sums it. -/
def loss (c : Dev nD) : EReal :=
  (∑ b : Fin 32, ∑ a : Fin 3, anchorSum m c b a) * (((1 : ℝ) / 32 : ℝ) : EReal)

/-- Windows on one array only read it. -/
theorem shared_in : ∀ w w' : Fin cfg0.W, w ≠ w' → Pipeline.arrRef spec0 w = Pipeline.arrRef spec0 w' →
    (cfg0.win w).isOut = false := by decide

/-- The grid has a sixteenth point. -/
theorem last_lt : 15 < cfg0.N := by decide

/-- The output array ends at the block the last grid point leaves. -/
theorem out_array (c : Dev nD) : (dats m 0 c).arrAt 4 cfg0.N = fun _ => loss m c := by
  refine (dats m 0 c).arrAt_eq_of_after_last 4 ⟨15, last_lt⟩ (by decide +kernel) _ fun j => ?_
  have hj : ∀ i : S1x1.Idx, i = ix2 0 0 := fun i => funext fun d => by
    fin_cases d <;> exact Subsingleton.elim (α := Fin 1) _ _
  have e : ∀ i : S1x1.Idx, (dats m 0 c).after 4 ⟨15, last_lt⟩ i = loss m c := fun i => by
    rw [hj i]
    exact (congrFun (after0_4 m c ⟨15, last_lt⟩) _).trans (outsAt_last m c last_lt)
  exact e _

/-- The scalar result is the output array's one entry. -/
theorem result_eq (c : Dev nD) :
    Pipeline.afterTail₀ cfgs (dats m) 0 (V0 m) [hostOps1] c main_v2 = fun _ => loss m c := by
  have hw := Pipeline.withArrays_arr_shared spec0 c (V0 m c) (fun w => (dats m 0 c).arrAt w cfg0.N)
    (fun w w' hne e => ((dats m 0 c).arrAt_in w (shared_in w w' hne e) _).trans (A_eq m c w)) 4
  have e : Pipeline.afterTail₀ cfgs (dats m) 0 (V0 m) [hostOps1] c main_v2
      = shapeCast S_ (Pipeline.withArrays spec0 c (V0 m c) (fun w => (dats m 0 c).arrAt w cfg0.N)
        (Proc.devRef .tc (Pipeline.arrRef spec0 4))) shapeCasts_S1x1_S_ := rfl
  rw [e, hw, out_array]
  rfl

/-- What the kernel's run leaves: the whole loss, and its arguments as they were. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v2) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h : θ_run (defs (F := Ideal)) (onTc (τ := τ) (main (F := Ideal))) ⟨m, fun _ => 0, g⟩ (fun r => ∀ c : Dev nD,
      r.2.mem ((c.tc : Thread nD τ).loc main_v2) = (fun _ => loss m c)) := by
    run_from Gen.run_main m g
    exact result_eq m c
  exact θ_run_mono (θ_run_and h (unchanged m g)) fun r h c => ⟨h.1 c, h.2 c⟩

end Cert.KernelIdeal.Own

end
-- ==== Proof.RefPick.lean ====
module

public import proofs.«01_k».proof.Proof.RefRun
public import proofs.«01_k».proof.Proof.Cells
public import Idealize.ShloMosaic.PureOps.Reduce

@[expose] public section

set_option maxRecDepth 16384

noncomputable section

namespace Cert.ReferenceIdeal.Own

open Idealize.ShloMosaic Idealize.SL.Sem Cert.ReferenceIdeal Cert.ReferenceIdeal.Gen Cert.Cells
open scoped BigOperators

/-- A fold that never leaves a set, and that keeps a member `e` whenever it meets one of the set with it, ends at `e`
    once `e` is in the list. -/
theorem foldl_absorb {α : Type} (f : α → α → α) (S : α → Prop) (e : α) (hS : ∀ a b, S a → S b → S (f a b))
    (hl : ∀ a, S a → f a e = e) (hr : ∀ a, S a → f e a = e) (he : S e) :
    ∀ (l : List α) (a : α), (∀ b ∈ l, S b) → S a → (e ∈ l ∨ a = e) → l.foldl f a = e := by
  intro l
  induction l with
  | nil => intro a _ _ h; exact h.resolve_left List.not_mem_nil
  | cons b l ih =>
    intro a hb ha h
    have hb0 := hb b List.mem_cons_self
    refine ih _ (fun c hc => hb c (List.mem_cons_of_mem _ hc)) (hS a b ha hb0) ?_
    rcases h with h | h
    · rcases List.mem_cons.1 h with h | h
      · exact Or.inr (h ▸ hl a ha)
      · exact Or.inl h
    · exact Or.inr (h ▸ hr b hb0)

/-- The pair of a class: its target and its number. -/
def entry (f : Fin 80 → EReal) (k : Fin 80) : EReal × BitVec 32 := (f k, BitVec.ofNat 32 k.val)

/-- What the search for the largest target meets: a class's pair, or the pair it starts from. -/
def Met (f : Fin 80 → EReal) (q : EReal × BitVec 32) : Prop := (∃ k, q = entry f k) ∨ q = (⊥, 0#32)

/-- The body of the search, over the extended reals: the larger value, the smaller number among equals. -/
theorem body_eq (a b : EReal × BitVec 32) :
    reducer_argmax_f32_i32 (F := Ideal) a b
      = if b.1 < a.1 then a else if a.1 = b.1 then (if a.2.toInt < b.2.toInt then a else b) else b := by
  obtain ⟨x, i⟩ := a
  obtain ⟨y, j⟩ := b
  show (Scalar.select (IntOp.ori (BitVec.ofBool (decide (y < x))) (BitVec.ofBool (decide (x ≠ x)))) x y,
    Scalar.select (IntOp.ori (IntOp.ori (BitVec.ofBool (decide (y < x))) (BitVec.ofBool (decide (x ≠ x))))
      (IntOp.andi (BitVec.ofBool (decide (x = y))) (BitVec.ofBool (i.slt j)))) i j) = _
  have hx : decide (x ≠ x) = false := by simp
  rw [hx]
  by_cases h1 : y < x
  · have h2 : ¬ x = y := h1.ne'
    rw [decide_eq_true h1, decide_eq_false h2, if_pos h1]
    cases i.slt j <;> rfl
  · rw [decide_eq_false h1, if_neg h1]
    by_cases h2 : x = y
    · subst h2
      rw [decide_eq_true rfl, if_pos rfl]
      by_cases h3 : i.toInt < j.toInt
      · rw [if_pos h3, BitVec.slt_iff_toInt_lt.2 h3]; rfl
      · rw [if_neg h3, Bool.eq_false_iff.2 (fun hc => h3 (BitVec.slt_iff_toInt_lt.1 hc))]; rfl
    · rw [decide_eq_false h2, if_neg h2]
      cases i.slt j <;> rfl

/-- A pair met is at most the first largest entry's, and where it ties it is that pair or a later one. -/
theorem met_le (f : Fin 80 → EReal) (q : EReal × BitVec 32) (hq : Met f q) :
    q.1 ≤ f (first f) ∧ (q.1 = f (first f) → q = entry f (first f) ∨ ((first f).val : ℤ) < q.2.toInt) := by
  rcases hq with ⟨k, rfl⟩ | rfl
  · refine ⟨le_first f k, fun h => ?_⟩
    rcases lt_trichotomy k (first f) with h1 | h1 | h1
    · exact absurd h (lt_first f k h1).ne
    · exact Or.inl (by rw [h1])
    · refine Or.inr ?_
      show ((first f).val : ℤ) < (BitVec.ofNat 32 k.val).toInt
      rw [toInt_small]
      exact_mod_cast h1
  · refine ⟨bot_le, fun h => Or.inl ?_⟩
    have h0 : first f = 0 := by
      by_contra hc
      have := lt_first f 0 (Fin.pos_of_ne_zero hc)
      rw [← h] at this
      exact absurd this not_lt_bot
    show ((⊥ : EReal), 0#32) = (f (first f), BitVec.ofNat 32 (first f).val)
    rw [← h, h0]
    rfl

/-- Met with anything on its right, the first largest entry's pair stays. -/
theorem body_right (f : Fin 80 → EReal) (q : EReal × BitVec 32) (hq : Met f q) :
    reducer_argmax_f32_i32 (F := Ideal) (entry f (first f)) q = entry f (first f) := by
  obtain ⟨hle, htie⟩ := met_le f q hq
  rw [body_eq]
  split_ifs with h1 h2 h3
  · rfl
  · rfl
  · refine (htie h2.symm).resolve_right fun hc => h3 ?_
    show (BitVec.ofNat 32 (first f).val).toInt < q.2.toInt
    rwa [toInt_small]
  · exact absurd (le_antisymm (not_lt.1 h1) hle) h2

/-- Met with anything on its left, the first largest entry's pair stays. -/
theorem body_left (f : Fin 80 → EReal) (q : EReal × BitVec 32) (hq : Met f q) :
    reducer_argmax_f32_i32 (F := Ideal) q (entry f (first f)) = entry f (first f) := by
  obtain ⟨hle, htie⟩ := met_le f q hq
  rw [body_eq]
  split_ifs with h1 h2 h3
  · exact absurd h1 (not_lt.2 hle)
  · refine (htie h2).resolve_right fun hc => ?_
    have h4 : q.2.toInt < (BitVec.ofNat 32 (first f).val).toInt := h3
    rw [toInt_small] at h4
    omega
  · rfl
  · rfl

/-- The body gives back one of its two pairs. -/
theorem body_met (f : Fin 80 → EReal) (a b : EReal × BitVec 32) (ha : Met f a) (hb : Met f b) :
    Met f (reducer_argmax_f32_i32 (F := Ideal) a b) := by
  rw [body_eq]
  split_ifs <;> assumption

/-- The search over a fiber of 80 positions ends at the first largest entry's pair. -/
theorem search_eq {s t u : Shape} {axes : List (Fin s.rank)} (y : FVec Ideal s .f32) (n : IVec s 32)
    (ix : FVec Ideal u .f32) (iy : IVec u 32) (h : s.ReducesTo axes t) (hu : 0 < u.numel) (j : t.Idx)
    (σ : Fin 80 → s.Idx) (hσ : ∀ i, h.drop i = j ↔ ∃ k, i = σ k) (hn : ∀ k, n (σ k) = BitVec.ofNat 32 k.val)
    (hx : ix (Shape.Idx.first hu) = (⊥ : EReal)) (hi : iy (Shape.Idx.first hu) = 0#32) :
    Host.argReduce (reducer_argmax_f32_i32 (F := Ideal)) y n ix iy h hu j
      = entry (fun k => y (σ k)) (first fun k => y (σ k)) := by
  rw [Ideal.argReduce_eq_reduce2, Host.reduce2_eq_foldl_fiber]
  refine foldl_absorb _ (Met fun k => y (σ k)) _ (body_met _) (body_left _) (body_right _) (Or.inl ⟨_, rfl⟩) _ _
    ?_ ?_ (Or.inl ?_)
  · intro q hq
    obtain ⟨m, hm, rfl⟩ := List.mem_map.1 hq
    obtain ⟨k, hk⟩ := (hσ _).1 (of_decide_eq_true (List.mem_filter.1 hm).2)
    refine Or.inl ⟨k, ?_⟩
    rw [hk, hn]
    rfl
  · exact Or.inr (Prod.ext hx hi)
  · refine List.mem_map.2 ⟨s.rowMajor (σ (first fun k => y (σ k))), ?_, ?_⟩
    · refine List.mem_filter.2 ⟨List.mem_finRange _, decide_eq_true ?_⟩
      rw [Equiv.symm_apply_apply]
      exact (hσ _).2 ⟨_, rfl⟩
    · rw [Equiv.symm_apply_apply, hn]
      rfl

/-- The positions that the class search of a cell goes over. -/
theorem drop_class (b : Fin 32) (a : Fin 3) (h w : Fin 64) (i : S32x3x64x64x80.Idx) :
    reducesTo_S32x3x64x64x80_S32x3x64x64_d4.drop i = ix4 b a h w ↔ ∃ k, i = ix5 b a h w k := by
  have hr : S32x3x64x64x80.Reduces [4] S32x3x64x64 := by decide
  have hl : ∀ k : Fin 80, hr.lift (ix4 b a h w) k = ix5 b a h w k := by
    intro k
    funext c
    refine Fin.ext ?_
    match c with
    | ⟨0, _⟩ => rfl
    | ⟨1, _⟩ => rfl
    | ⟨2, _⟩ => rfl
    | ⟨3, _⟩ => rfl
    | ⟨4, _⟩ => rfl
  rw [Shape.ReducesTo.drop_eq_drop _ hr]
  constructor
  · intro hi
    exact ⟨i 4, (hr.lift_drop i).symm.trans ((congrArg (fun q => hr.lift q (i 4)) hi).trans (hl (i 4)))⟩
  · rintro ⟨k, rfl⟩
    rw [← hl]
    exact hr.drop_lift _ k

/-- The second component of an indexed family of pairs, at an index whose pair is known. -/
theorem snd_at {ι α β : Type} (g : ι → β) (A : ι → α × β) (hg : g = fun j => (A j).2) (j : ι) (e : α × β) (h : A j = e) :
    g j = e.2 := by
  subst hg
  exact congrArg Prod.snd h

/-- The number found at a cell is the one of the first largest class target. -/
theorem argmax_apply (y : FVec Ideal S32x3x64x64x80 .f32) (b : Fin 32) (a : Fin 3) (h w : Fin 64) :
    argmax y (ix4 b a h w) = BitVec.ofNat 32 (first fun k => y (ix5 b a h w k)).val := by
  exact snd_at (argmax y) (Host.argReduce (reducer_argmax_f32_i32 (F := Ideal)) y (iotaInDim S32x3x64x64x80 32 4) (constant S_ .f32 0xFF800000#32)
    (constantI S_ 32 0#32) reducesTo_S32x3x64x64x80_S32x3x64x64_d4 h_S_) rfl (ix4 b a h w)
    (entry (fun k => y (ix5 b a h w k)) (first fun k => y (ix5 b a h w k)))
    (search_eq y (iotaInDim S32x3x64x64x80 32 4) (constant S_ .f32 0xFF800000#32) (constantI S_ 32 0#32)
      reducesTo_S32x3x64x64x80_S32x3x64x64_d4 h_S_ (ix4 b a h w) (fun k => ix5 b a h w k) (drop_class b a h w)
      (fun k => rfl) ofBits_bot rfl)

end Cert.ReferenceIdeal.Own

end
-- ==== Proof.RefTake.lean ====
module

public import proofs.«01_k».proof.Proof.RefPick
public import Idealize.ShloMosaic.Lib.ValueIdxCore

@[expose] public section

set_option maxRecDepth 16384

noncomputable section

namespace Cert.ReferenceIdeal.Own

open Idealize.ShloMosaic Idealize.SL.Sem Cert.ReferenceIdeal Cert.ReferenceIdeal.Gen Cert.Cells
open scoped BigOperators

/-- The reference's gather along the classes. -/
abbrev byClass : GatherDims S32x3x64x64x80 S32x3x64x64x1x1 S32x3x64x64x1 :=
  gather_S32x3x64x64x80_S32x3x64x64x1x1_S32x3x64x64x1_n_4_0123_0123_4_5_11111

/-- The gather at a cell whose class number is `k` reads the cell's score of class `k`. -/
theorem gather_class (s : FVec Ideal S32x3x64x64x80 .f32) (n : IVec S32x3x64x64x1x1 32) (b : Fin 32) (a : Fin 3)
    (h w : Fin 64) (k : Fin 80) (hk : n (ix6 b a h w 0 0) = BitVec.ofNat 32 k.val) :
    Host.gather byClass s n (ix5 b a h w 0) = s (ix5 b a h w k) := by
  unfold Host.gather
  congr 1
  have hbatch : ∀ (c : Fin 5) (hc : c ∈ byClass.operandBatchingDims),
      byClass.start (ix5 b a h w 0) n c + byClass.batchCoord (ix5 b a h w 0) c + byClass.offCoord (ix5 b a h w 0) c
        = byClass.batchCoord (ix5 b a h w 0) c := by
    intro c hc
    rw [GatherDims.start_batching _ _ _ _ hc,
      GatherDims.offCoord_eq_zero _ _ _ (fun h => ((GatherDims.mem_sKept _ _).mp h).2 hc)]
    omega
  funext c
  refine Fin.ext ?_
  show byClass.start (ix5 b a h w 0) n c + byClass.batchCoord (ix5 b a h w 0) c
      + byClass.offCoord (ix5 b a h w 0) c = _
  have hc : c = 0 ∨ c = 1 ∨ c = 2 ∨ c = 3 ∨ c = 4 := by
    match c with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases hc with rfl | rfl | rfl | rfl | rfl
  · rw [hbatch _ (show (0 : Fin 5) ∈ ([0, 1, 2, 3] : List (Fin 5)) by decide)]
    unfold GatherDims.batchCoord
    rw [dif_pos (show (0 : Fin 5) ∈ byClass.operandBatchingDims from (by decide : (0 : Fin 5) ∈ ([0, 1, 2, 3] : List (Fin 5))))]
    rfl
  · rw [hbatch _ (show (1 : Fin 5) ∈ ([0, 1, 2, 3] : List (Fin 5)) by decide)]
    unfold GatherDims.batchCoord
    rw [dif_pos (show (1 : Fin 5) ∈ byClass.operandBatchingDims from (by decide : (1 : Fin 5) ∈ ([0, 1, 2, 3] : List (Fin 5))))]
    rfl
  · rw [hbatch _ (show (2 : Fin 5) ∈ ([0, 1, 2, 3] : List (Fin 5)) by decide)]
    unfold GatherDims.batchCoord
    rw [dif_pos (show (2 : Fin 5) ∈ byClass.operandBatchingDims from (by decide : (2 : Fin 5) ∈ ([0, 1, 2, 3] : List (Fin 5))))]
    rfl
  · rw [hbatch _ (show (3 : Fin 5) ∈ ([0, 1, 2, 3] : List (Fin 5)) by decide)]
    unfold GatherDims.batchCoord
    rw [dif_pos (show (3 : Fin 5) ∈ byClass.operandBatchingDims from (by decide : (3 : Fin 5) ∈ ([0, 1, 2, 3] : List (Fin 5))))]
    rfl
  · rw [GatherDims.batchCoord_eq_zero _ _ _ (show (4 : Fin 5) ∉ ([0, 1, 2, 3] : List (Fin 5)) by decide),
      GatherDims.offCoord_eq_zero _ _ _ (fun h => ((GatherDims.mem_sKept _ _).mp h).1 (List.mem_singleton.mpr rfl))]
    simp only [Nat.add_zero]
    unfold GatherDims.start
    rw [dif_pos (show (4 : Fin 5) ∈ byClass.startIndexMap from List.mem_singleton.mpr rfl)]
    have hsi : byClass.siIdx (ix5 b a h w 0) ⟨List.idxOf (4 : Fin 5) byClass.startIndexMap,
        List.idxOf_lt_length_iff.2 (List.mem_singleton.mpr rfl)⟩ = ix6 b a h w 0 0 := by
      funext e
      refine Fin.ext ?_
      match e with
      | ⟨0, _⟩ => rfl
      | ⟨1, _⟩ => rfl
      | ⟨2, _⟩ => rfl
      | ⟨3, _⟩ => rfl
      | ⟨4, _⟩ => rfl
      | ⟨5, _⟩ => rfl
    rw [hsi, hk, toInt_small]
    have := k.isLt
    show min (k.val : ℤ).toNat (80 - 1) = k.val
    omega

/-- A class number is not negative, so it is left as it is. -/
theorem wrapped_apply (n : IVec S32x3x64x64x1 32) (b : Fin 32) (a : Fin 3) (h w : Fin 64) (k : Fin 80)
    (hk : n (ix5 b a h w 0) = BitVec.ofNat 32 k.val) :
    wrapped n (ix6 b a h w 0 0) = BitVec.ofNat 32 k.val := by
  pointwise [wrapped, konstI]
  rw [hk]
  have hn : (BitVec.ofNat 32 k.val).slt 0#32 = false := by
    refine Bool.eq_false_iff.2 fun hc => ?_
    have h1 := BitVec.slt_iff_toInt_lt.1 hc
    rw [toInt_small] at h1
    have h2 : (k.val : ℤ) < 0 := h1
    omega
  show Scalar.select (BitVec.ofBool ((BitVec.ofNat 32 k.val).slt 0#32)) _ _ = _
  rw [hn]
  rfl

/-- The conjunction of ones is one. -/
theorem fold_and_one {ι : Type} (s : Finset ι) (f : ι → BitVec 1) (hf : ∀ i ∈ s, f i = 1#1) :
    Finset.fold IntOp.andi 1#1 f s = 1#1 := by
  classical
  induction s using Finset.induction_on with
  | empty => rfl
  | insert i s hi ih =>
    rw [Finset.fold_insert hi, hf i (Finset.mem_insert_self i s), ih fun j hj => hf j (Finset.mem_insert_of_mem hj)]
    rfl

/-- The one position whose range test a cell sees. -/
theorem drop_unit (b : Fin 32) (a : Fin 3) (h w : Fin 64) (i : S32x3x64x64x1x1.Idx)
    (hi : reducesTo_S32x3x64x64x1x1_S32x3x64x64x1_d5.drop i = ix5 b a h w 0) : i = ix6 b a h w 0 0 := by
  have hr : S32x3x64x64x1x1.Reduces [5] S32x3x64x64x1 := by decide
  have hl : ∀ k : Fin 1, hr.lift (ix5 b a h w 0) k = ix6 b a h w 0 k := by
    intro k
    funext c
    refine Fin.ext ?_
    match c with
    | ⟨0, _⟩ => rfl
    | ⟨1, _⟩ => rfl
    | ⟨2, _⟩ => rfl
    | ⟨3, _⟩ => rfl
    | ⟨4, _⟩ => rfl
    | ⟨5, _⟩ => rfl
  rw [Shape.ReducesTo.drop_eq_drop _ hr] at hi
  refine (hr.lift_drop i).symm.trans ((congrArg (fun q => hr.lift q (i 5)) hi).trans ((hl (i 5)).trans ?_))
  exact congrArg (fun k : Fin 1 => (ix6 b a h w 0 k : S32x3x64x64x1x1.Idx)) (Subsingleton.elim _ _)

/-- A class number is in range. -/
theorem inRange_apply (n : IVec S32x3x64x64x1x1 32) (b : Fin 32) (a : Fin 3) (h w : Fin 64) (k : Fin 80)
    (hk : n (ix6 b a h w 0 0) = BitVec.ofNat 32 k.val) :
    inRange n (ix5 b a h w 0) = 1#1 := by
  pointwise [inRange]
  refine fold_and_one _ _ fun i hi => ?_
  rw [drop_unit b a h w i (Finset.mem_filter.1 hi).2, hk]
  have h0 : (0#32).sle (BitVec.ofNat 32 k.val) = true := by
    refine BitVec.sle_iff_toInt_le.2 ?_
    rw [toInt_small]
    show (0 : ℤ) ≤ (k.val : ℤ)
    omega
  have h1 : (BitVec.ofNat 32 k.val).sle 79#32 = true := by
    refine BitVec.sle_iff_toInt_le.2 ?_
    rw [toInt_small]
    show (k.val : ℤ) ≤ 79
    omega
  show IntOp.andi (BitVec.ofBool ((0#32).sle (BitVec.ofNat 32 k.val))) (BitVec.ofBool ((BitVec.ofNat 32 k.val).sle 79#32)) = _
  rw [h0, h1]
  rfl

/-- The unit last axis dropped, at a cell. -/
theorem flat_apply (v : FVec Ideal S32x3x64x64x1 .f32) (b : Fin 32) (a : Fin 3) (h w : Fin 64) :
    flat v (ix4 b a h w) = v (ix5 b a h w 0) := by
  pointwise [flat]

/-- A unit last axis put on, at a cell. -/
theorem column_apply (n : IVec S32x3x64x64 32) (b : Fin 32) (a : Fin 3) (h w : Fin 64) :
    broadcastInDim S32x3x64x64x1 ![0, 1, 2, 3] bcast_S32x3x64x64_S32x3x64x64x1_0_1_2_3 n (ix5 b a h w 0)
      = n (ix4 b a h w) := by
  pointwise []

/-- The score taken at a cell whose class number is `k` is that of class `k`. -/
theorem takeAlong_apply (s : FVec Ideal S32x3x64x64x80 .f32) (n : IVec S32x3x64x64x1 32) (b : Fin 32) (a : Fin 3)
    (h w : Fin 64) (k : Fin 80) (hk : n (ix5 b a h w 0) = BitVec.ofNat 32 k.val) :
    takeAlong s n (ix5 b a h w 0) = s (ix5 b a h w k) := by
  have hw := wrapped_apply n b a h w k hk
  have hr := inRange_apply (wrapped n) b a h w k hw
  have hg := gather_class s (wrapped n) b a h w k hw
  unfold takeAlong
  generalize inRange (wrapped n) = r at hr ⊢
  generalize Host.gather byClass s (wrapped n) = v at hg ⊢
  rw [ValueIdx.select_apply, hr, hg]
  rfl

/-- The reference's class pick is the score of the first largest target. -/
theorem pick_apply (s y : FVec Ideal S32x3x64x64x80 .f32) (b : Fin 32) (a : Fin 3) (h w : Fin 64) :
    pick s y (ix4 b a h w) = s (ix5 b a h w (first fun k => y (ix5 b a h w k))) := by
  have hk := argmax_apply y b a h w
  unfold pick
  generalize argmax y = n at hk ⊢
  rw [flat_apply]
  exact takeAlong_apply s _ b a h w _ ((column_apply n b a h w).trans hk)

end Cert.ReferenceIdeal.Own

end
-- ==== Proof.RefValue.lean ====
module

public import proofs.«01_k».proof.Proof.RefTake

@[expose] public section

set_option maxRecDepth 16384

noncomputable section

namespace Cert.ReferenceIdeal.Own

open Idealize.ShloMosaic Idealize.SL.Sem Cert.ReferenceIdeal Cert.ReferenceIdeal.Gen Cert.Cells
open scoped BigOperators

/-- The 85 fields of one cell. -/
def cell (v : FVec Ideal S32x3x64x64x85 .f32) (b : Fin 32) (a : Fin 3) (h w : Fin 64) : Fin 85 → EReal :=
  fun f => v (ix5 b a h w f)

/-- A cell's place: image, anchor, row and column. -/
abbrev Place := Fin 32 × Fin 3 × Fin 64 × Fin 64

/-- A cell's position in an array of cells. -/
def pos (c : Place) : S32x3x64x64.Idx := ix4 c.1 c.2.1 c.2.2.1 c.2.2.2

/-- The total of an array of cells is the sum over their places. -/
theorem total_apply (v : FVec Ideal S32x3x64x64 .f32) : total v ix0 = ∑ c : Place, v (pos c) := by
  pointwise [total]
  show 0 + ∑ i ∈ Finset.univ.filter (fun i => reducesTo_S32x3x64x64_S_d0_1_2_3.drop i = ix0), v i = _
  rw [Finset.filter_true_of_mem fun i _ => funext fun k => k.elim0, zero_add, sum_idx4]
  simp only [Fintype.sum_prod_type]
  rfl

/-- Field 0 of a cell. -/
theorem f0_apply (v : FVec Ideal S32x3x64x64x85 .f32) (b : Fin 32) (a : Fin 3) (h w : Fin 64) :
    f0 v (ix4 b a h w) = cell v b a h w 0 := by
  pointwise [f0, flat, cell]

/-- Field 1 of a cell. -/
theorem f1_apply (v : FVec Ideal S32x3x64x64x85 .f32) (b : Fin 32) (a : Fin 3) (h w : Fin 64) :
    f1 v (ix4 b a h w) = cell v b a h w 1 := by
  pointwise [f1, flat, cell]

/-- Field 2 of a cell. -/
theorem f2_apply (v : FVec Ideal S32x3x64x64x85 .f32) (b : Fin 32) (a : Fin 3) (h w : Fin 64) :
    f2 v (ix4 b a h w) = cell v b a h w 2 := by
  pointwise [f2, flat, cell]

/-- Field 3 of a cell. -/
theorem f3_apply (v : FVec Ideal S32x3x64x64x85 .f32) (b : Fin 32) (a : Fin 3) (h w : Fin 64) :
    f3 v (ix4 b a h w) = cell v b a h w 3 := by
  pointwise [f3, flat, cell]

/-- Field 4 of a cell. -/
theorem f4_apply (v : FVec Ideal S32x3x64x64x85 .f32) (b : Fin 32) (a : Fin 3) (h w : Fin 64) :
    f4 v (ix4 b a h w) = cell v b a h w 4 := by
  pointwise [f4, flat, cell]

/-- The class fields of a cell. -/
theorem fc_apply (v : FVec Ideal S32x3x64x64x85 .f32) (b : Fin 32) (a : Fin 3) (h w : Fin 64) (k : Fin 80) :
    fc v (ix5 b a h w k) = cls (cell v b a h w) k := by
  pointwise [fc, cell, cls]

/-- The indicator of the cells that hold an object. -/
theorem indicator_one (v : FVec Ideal S32x3x64x64 .f32) (b : Fin 32) (a : Fin 3) (h w : Fin 64) :
    indicator 0x3F800000#32 v (ix4 b a h w) = ind 1 (v (ix4 b a h w)) := by
  pointwise [indicator, konst]
  exact uitofp_eq _ _

/-- The indicator of the cells that hold none. -/
theorem indicator_zero (v : FVec Ideal S32x3x64x64 .f32) (b : Fin 32) (a : Fin 3) (h w : Fin 64) :
    indicator 0x00000000#32 v (ix4 b a h w) = ind 0 (v (ix4 b a h w)) := by
  pointwise [indicator, konst]
  exact uitofp_eq _ _

/-- The logistic function at a cell. -/
theorem logistic_apply (v : FVec Ideal S32x3x64x64 .f32) (b : Fin 32) (a : Fin 3) (h w : Fin 64) :
    logistic v (ix4 b a h w) = logi (v (ix4 b a h w)) := by
  pointwise [logistic, konst]
  rfl

/-- The reference's confidence loss at a cell: no extended real differs from itself. -/
theorem bce_apply (z y : FVec Ideal S32x3x64x64 .f32) (b : Fin 32) (a : Fin 3) (h w : Fin 64) :
    bce z y (ix4 b a h w) = Cells.bce (z (ix4 b a h w)) (y (ix4 b a h w)) := by
  pointwise [bce, konst]
  rw [if_neg (fun hc => hc rfl), zero_sub, max_comm]
  unfold Cells.bce soft mag
  show max _ _ + Ideal.log (1 + Ideal.exp (-max (-z (ix4 b a h w)) (- -z (ix4 b a h w)))) - _ = _
  rw [neg_neg, max_comm (-z (ix4 b a h w))]

/-- The reference's log-sum-exp at a cell. -/
theorem lse_apply (s : FVec Ideal S32x3x64x64x80 .f32) (b : Fin 32) (a : Fin 3) (h w : Fin 64) :
    lse s (ix4 b a h w) = Ideal.log (∑ k, Ideal.exp (s (ix5 b a h w k))) := by
  pointwise [lse]

/-- The predictions regrouped: each cell's 85 fields are 85 consecutive channels of its anchor. -/
theorem preds_apply (x : FVec Ideal S32x255x64x64 .f32) (b : Fin 32) (a : Fin 3) (h w : Fin 64) (f : Fin 85) :
    preds x (ix5 b a h w f) = x (ix4 b ⟨a.val * 85 + f.val, by omega⟩ h w) := by
  pointwise [preds]

/-- The cell at a place. -/
def at_ (v : FVec Ideal S32x3x64x64x85 .f32) (c : Place) : Fin 85 → EReal := cell v c.1 c.2.1 c.2.2.1 c.2.2.2

/-- The masked sum of squares over the places. -/
theorem sqLoss_apply (o v w : FVec Ideal S32x3x64x64 .f32) :
    sqLoss o v w ix0 = ∑ c : Place, o (pos c) * dist2 (v (pos c)) (w (pos c)) := by
  unfold sqLoss
  rw [total_apply]
  rfl

/-- The coordinate loss over the places. -/
theorem locLoss_apply (p t : FVec Ideal S32x3x64x64x85 .f32) :
    locLoss p t ix0
      = ((∑ c : Place, ind 1 (at_ t c 4) * dist2 (logi (at_ p c 0)) (at_ t c 0))
          + (∑ c : Place, ind 1 (at_ t c 4) * dist2 (logi (at_ p c 1)) (at_ t c 1))
          + (∑ c : Place, ind 1 (at_ t c 4) * dist2 (at_ p c 2) (at_ t c 2))
          + (∑ c : Place, ind 1 (at_ t c 4) * dist2 (at_ p c 3) (at_ t c 3))) * ((5 : ℝ) : EReal) := by
  rw [← ofBits_five]
  show (sqLoss _ _ _ ix0 + sqLoss _ _ _ ix0 + sqLoss _ _ _ ix0 + sqLoss _ _ _ ix0) * Ideal.ofBits .f32 0x40A00000#32 = _
  rw [sqLoss_apply, sqLoss_apply, sqLoss_apply, sqLoss_apply]
  unfold pos at_
  simp only [indicator_one, logistic_apply, f0_apply, f1_apply, f2_apply, f3_apply, f4_apply]

/-- The confidence loss over the places. -/
theorem confLoss_apply (p t : FVec Ideal S32x3x64x64x85 .f32) :
    confLoss p t ix0
      = (∑ c : Place, ind 1 (at_ t c 4) * Cells.bce (at_ p c 4) (at_ t c 4))
        + (∑ c : Place, ind 0 (at_ t c 4) * Cells.bce (at_ p c 4) (at_ t c 4)) * (((1 : ℝ) / 2 : ℝ) : EReal) := by
  rw [← ofBits_half]
  show total _ ix0 + total _ ix0 * Ideal.ofBits .f32 0x3F000000#32 = _
  rw [total_apply, total_apply]
  show (∑ c : Place, indicator 0x3F800000#32 (f4 t) (pos c) * bce (f4 p) (f4 t) (pos c))
    + (∑ c : Place, indicator 0x00000000#32 (f4 t) (pos c) * bce (f4 p) (f4 t) (pos c)) * _ = _
  unfold pos at_
  simp only [indicator_one, indicator_zero, bce_apply, f4_apply]

/-- The class loss over the places. -/
theorem classLoss_apply (p t : FVec Ideal S32x3x64x64x85 .f32) :
    classLoss p t ix0 = ∑ c : Place, ind 1 (at_ t c 4) * xent (at_ p c) (at_ t c) := by
  unfold classLoss
  rw [total_apply]
  refine Finset.sum_congr rfl fun c _ => ?_
  have hp := pick_apply (fc p) (fc t) c.1 c.2.1 c.2.2.1 c.2.2.2
  generalize pick (fc p) (fc t) = q at hp ⊢
  show indicator 0x3F800000#32 (f4 t) (pos c) * (lse (fc p) (pos c) - q (pos c)) = _
  unfold pos at_ xent
  rw [hp, indicator_one, lse_apply, f4_apply]
  simp only [fc_apply]

/-- The reference's result: the cells' contributions summed, over thirty-two. -/
theorem value_eq (x : FVec Ideal S32x255x64x64 .f32) (t : FVec Ideal S32x3x64x64x85 .f32)
    (hx : ∀ c k, cls (at_ (preds x) c) k < ⊤) :
    value x t ix0 = (∑ c : Place, kcell (at_ (preds x) c) (at_ t c)) * (((1 : ℝ) / 32 : ℝ) : EReal) := by
  rw [← div_batch, ← ofBits_batch]
  show Ideal.div (locLoss (preds x) t ix0 + confLoss (preds x) t ix0 + classLoss (preds x) t ix0)
    (Ideal.ofBits .f32 0x42000000#32) = _
  rw [locLoss_apply, confLoss_apply, classLoss_apply]
  congr 1
  rw [Finset.sum_congr rfl fun c _ => kcell_eq (at_ (preds x) c) (at_ t c) (hx c)]
  rw [Finset.sum_add_distrib, Finset.sum_add_distrib, Finset.sum_add_distrib, ← sum_scale (by norm_num),
    ← sum_scale (by norm_num), Finset.sum_add_distrib, Finset.sum_add_distrib, Finset.sum_add_distrib]

end Cert.ReferenceIdeal.Own

end
-- ==== Proof.Equation.lean ====
module

public import proofs.«01_k».proof.Defs
public import proofs.«01_k».proof.Proof.KRun
public import proofs.«01_k».proof.Proof.RefValue
public import proofs.«01_k».proof.Proof.Gen.Pre_class_scores_below_infinity

@[expose] public section

set_option maxRecDepth 16384

noncomputable section

namespace Cert.Equation

open Idealize.ShloMosaic Idealize.SL.Sem Cert.Cells
open Cert.ReferenceIdeal.Own (Place at_ preds preds_apply value)
open scoped BigOperators

/-- A conjunction that starts at one and comes to one has only ones in it. -/
theorem ones_of_fold {ι : Type} (s : Finset ι) (f : ι → BitVec 1) (h : Finset.fold IntOp.andi 1#1 f s = 1#1) :
    ∀ i ∈ s, f i = 1#1 := by
  classical
  induction s using Finset.induction_on with
  | empty => simp
  | insert i s hi ih =>
    rw [Finset.fold_insert hi] at h
    have e : ∀ x y : BitVec 1, IntOp.andi x y = 1#1 → x = 1#1 ∧ y = 1#1 := by decide
    obtain ⟨h1, h2⟩ := e _ _ h
    intro j hj
    rcases Finset.mem_insert.1 hj with rfl | hj
    · exact h1
    · exact ih h2 j hj

/-- What the precondition says of the predictions: every class score is below infinity. -/
theorem scores_lt (x : FVec Ideal Cert.ReferenceIdeal.S32x255x64x64 .f32)
    (t : FVec Ideal Cert.ReferenceIdeal.S32x3x64x64x85 .f32)
    (h : Cert.Pre_class_scores_below_infinity.fn (F := Ideal) x t = fun _ => 1#1) (c : Place) (k : Fin 80) :
    cls (at_ (preds x) c) k < ⊤ := by
  have h0 := congrFun h ix0
  unfold Cert.Pre_class_scores_below_infinity.fn at h0
  pointwise [] at h0
  have h1 := ones_of_fold _ _ h0 (ix5 c.1 c.2.1 k c.2.2.1 c.2.2.2)
    (Finset.mem_filter.2 ⟨Finset.mem_univ _, funext fun d => d.elim0⟩)
  have ob : ∀ b : Bool, BitVec.ofBool b = 1#1 → b = true := by decide
  have h2 := of_decide_eq_true (ob _ h1)
  rw [ofBits_top] at h2
  exact lt_of_eq_of_lt (preds_apply x c.1 c.2.1 c.2.2.1 c.2.2.2 ⟨5 + k.val, by omega⟩) h2

/-- The sum over a row of 4096 cells is the sum over 64 rows of 64. -/
theorem row_sum (f : Fin 64 → Fin 64 → EReal) :
    ∑ x : Fin 4096, f ⟨x.val / 64, by omega⟩ ⟨x.val % 64, by omega⟩ = ∑ h : Fin 64, ∑ w : Fin 64, f h w := by
  symm
  exact Fin.sum_mul_add_congr fun s k hl => by
    congr 1 <;> apply Fin.ext <;> simp only [] <;> omega

/-- The kernel's sum over images, anchors and cells is the reference's over places. -/
theorem sum_eq (x : FVec Ideal Cert.ReferenceIdeal.S32x255x64x64 .f32)
    (t : FVec Ideal Cert.ReferenceIdeal.S32x3x64x64x85 .f32) (m : _) (c : _)
    (hx : Cert.KernelIdeal.Own.pr m c = x) (ht : Cert.KernelIdeal.Own.tg m c = t) :
    ∑ b : Fin 32, ∑ a : Fin 3, Cert.KernelIdeal.Own.anchorSum m c b a
      = ∑ p : Place, kcell (at_ (preds x) p) (at_ t p) := by
  simp only [Fintype.sum_prod_type]
  refine Finset.sum_congr rfl fun b _ => Finset.sum_congr rfl fun a _ => ?_
  rw [← row_sum fun h w => kcell (at_ (preds x) (b, a, h, w)) (at_ t (b, a, h, w))]
  refine Finset.sum_congr rfl fun y _ => ?_
  congr 1
  · funext ch
    refine Eq.trans ?_ (preds_apply x b a _ _ ch).symm
    rw [← hx]
    rfl
  · funext f
    rw [← ht]
    rfl

/-- The kernel and the reference leave the same loss. -/
theorem algebraic : Cert.algebraic_KernelIdeal_ReferenceIdeal_pre_class_scores_below_infinity
    (hKernelIdeal := Cert.KernelIdeal.Gen.facts) (hReferenceIdeal := Cert.ReferenceIdeal.Gen.facts)
    (hPre_class_scores_below_infinity := Cert.Pre_class_scores_below_infinity.Gen.facts) := by
  intro m g m' g' hpre hagree
  refine ⟨_, Cert.KernelIdeal.Own.run m g,
    θ_run_mono (Cert.ReferenceIdeal.Own.run m' g') fun r h c => ⟨(h c).1.trans ?_, (h c).2⟩⟩
  funext i
  have hi : i = ix0 := funext fun d => d.elim0
  have h0 := (hagree c).1
  have h1 := (hagree c).2
  unfold Cert.KernelIdeal.Own.loss
  rw [hi, sum_eq _ _ m c h0.symm h1.symm]
  refine Cert.ReferenceIdeal.Own.value_eq _ _ fun p k =>
    scores_lt _ (m' ((c.tc : Thread Cert.ReferenceIdeal.nD Cert.ReferenceIdeal.τ).loc Cert.ReferenceIdeal.main_arg1)) ?_ p k
  rw [h0, h1]
  exact hpre c

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_class_scores_below_infinity
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three programs run to the end with their arguments unchanged, and over the extended reals the kernel and the
    reference leave the same loss. -/
theorem claim : Cert.Claim := ⟨Cert.Kernel.Gen.facts, Cert.KernelIdeal.Gen.facts, Cert.ReferenceIdeal.Gen.facts,
  Cert.Pre_class_scores_below_infinity.Gen.facts,
  fun m ρ _ => Cert.Kernel.Gen.frame m ρ, fun m ρ _ => Cert.KernelIdeal.Gen.frame m ρ,
  fun m ρ _ => Cert.KernelIdeal.Gen.frame m ρ, fun m g _ => Cert.ReferenceIdeal.Own.frame m g,
  fun m g _ => Cert.ReferenceIdeal.Own.frame m g, trivial, Cert.Equation.algebraic⟩

end Cert.Proof

end
